-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_are_normal [hPre_scales_are_normal : Cert.Pre_scales_are_normal.Facts] (m : (ℓ : Loc Cert.KernelIdeal.nD Cert.KernelIdeal.τ Cert.KernelIdeal.sig) → Buf (Elt Ideal) ℓ) : Prop :=
  ∀ c : Dev Cert.KernelIdeal.nD,
    (Cert.Pre_scales_are_normal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_are_normal [hPre_scales_are_normal : Cert.Pre_scales_are_normal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_are_normal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scales_are_normal [hKernelIdeal : Cert.KernelIdeal.Facts] [hPre_scales_are_normal : Cert.Pre_scales_are_normal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_are_normal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scales_are_normal [hReferenceIdeal : Cert.ReferenceIdeal.Facts] [hPre_scales_are_normal : Cert.Pre_scales_are_normal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_are_normal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  IdealRules.named_const.Statement Cert.KernelIdeal.κ "minus_inf" .f32 0xFF61B1E6#32 ⊥
  ∧ IdealRules.named_const.Statement Cert.KernelIdeal.κ "score_scale_log2e" .f32 0x3E0293EE#32 (((Real.sqrt 128)⁻¹ * (Real.log 2)⁻¹ : ℝ) : EReal)
  ∧ IdealRules.named_const.Statement Cert.KernelIdeal.κ "score_scale" .f32 0x3DB504F3#32 (((Real.sqrt 128)⁻¹ : ℝ) : EReal)
  ∧ IdealRules.named_const.Statement Cert.KernelIdeal.κ "inv_fp8_max" .f32 0x3B124925#32 ((1 / 448 : ℝ) : EReal)

def algebraic_KernelIdeal_ReferenceIdeal_pre_scales_are_normal [hKernelIdeal : Cert.KernelIdeal.Facts] [hReferenceIdeal : Cert.ReferenceIdeal.Facts] [hPre_scales_are_normal : Cert.Pre_scales_are_normal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_are_normal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12_0) = v0 c
          ∧ r.2.mem ((c.tc : Thread Cert.ReferenceIdeal.nD Cert.ReferenceIdeal.τ).loc Cert.ReferenceIdeal.main_v12_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_scales_are_normal : Cert.Pre_scales_are_normal.Facts),
    quiescent_Kernel (hKernel := hKernel)
    ∧ quiescent_KernelIdeal (hKernelIdeal := hKernelIdeal)
    ∧ quiescent_KernelIdeal_pre_scales_are_normal (hKernelIdeal := hKernelIdeal) (hPre_scales_are_normal := hPre_scales_are_normal)
    ∧ quiescent_ReferenceIdeal (hReferenceIdeal := hReferenceIdeal)
    ∧ quiescent_ReferenceIdeal_pre_scales_are_normal (hReferenceIdeal := hReferenceIdeal) (hPre_scales_are_normal := hPre_scales_are_normal)
    ∧ preserves_Kernel_KernelIdeal
    ∧ algebraic_KernelIdeal_ReferenceIdeal_pre_scales_are_normal (hKernelIdeal := hKernelIdeal) (hReferenceIdeal := hReferenceIdeal) (hPre_scales_are_normal := hPre_scales_are_normal)
-- ==== Pre_scales_are_normal.lean ====
abbrev S3x640x14x128 : Shape := ⟨4, ![3, 640, 14, 128]⟩
abbrev S3x640x14x4 : Shape := ⟨4, ![3, 640, 14, 4]⟩
abbrev S3x640x2x128 : Shape := ⟨4, ![3, 640, 2, 128]⟩
abbrev S3x640x2x4 : Shape := ⟨4, ![3, 640, 2, 4]⟩
abbrev S3x20x2x128 : Shape := ⟨4, ![3, 20, 2, 128]⟩
abbrev S_ : Shape := ⟨0, ![]⟩

class Facts : Prop where
  natLt_8_32 : 8 < 32
  bcast_S_S3x640x14x4 : S_.BroadcastsInDim S3x640x14x4 (![] : Fin 0 → Fin S3x640x14x4.rank)
  reducesTo_S3x640x14x4_S_d0_1_2_3 : S3x640x14x4.ReducesTo [0, 1, 2, 3] S_
  h_S_ : 0 < S_.numel
  bcast_S_S3x640x2x4 : S_.BroadcastsInDim S3x640x2x4 (![] : Fin 0 → Fin S3x640x2x4.rank)
  reducesTo_S3x640x2x4_S_d0_1_2_3 : S3x640x2x4.ReducesTo [0, 1, 2, 3] S_
  bcast_S_S3x20x2x128 : S_.BroadcastsInDim S3x20x2x128 (![] : Fin 0 → Fin S3x20x2x128.rank)
  reducesTo_S3x20x2x128_S_d0_1_2_3 : S3x20x2x128.ReducesTo [0, 1, 2, 3] S_

variable [Facts]

def fn_part1 {F : FTy → Type} [FloatOps F] (main_v14 : IVec S_ 1) (main_v15 : IVec S3x20x2x128 32) (main_v16 : IVec S3x20x2x128 32) : IVec S_ 1 :=
  let main_v17 : IVec S3x20x2x128 1 := cmpi .sge main_v15 main_v16
  let main_c_6 : IVec S_ 32 := constantI S_ 32 254#32
  let main_v18 : IVec S3x20x2x128 32 := broadcastInDim S3x20x2x128 ![] bcast_S_S3x20x2x128 main_c_6
  let main_v19 : IVec S3x20x2x128 1 := cmpi .sle main_v15 main_v18
  let main_v20 : IVec S3x20x2x128 1 := andi main_v17 main_v19
  let main_c_7 : IVec S_ 1 := constantI S_ 1 1#1
  let main_v21 : IVec S_ 1 := (fun x v => Host.reduce IntOp.andi x v reducesTo_S3x20x2x128_S_d0_1_2_3 h_S_) main_v20 main_c_7
  let main_v22 : IVec S_ 1 := andi main_v14 main_v21
  main_v22

def fn {F : FTy → Type} [FloatOps F] (main_arg0 : FVec F S3x640x14x128 .fp8e4m3) (main_arg1 : IVec S3x640x14x4 8) (main_arg2 : FVec F S3x640x2x128 .fp8e4m3) (main_arg3 : IVec S3x640x2x4 8) (main_arg4 : FVec F S3x640x2x128 .fp8e4m3) (main_arg5 : IVec S3x20x2x128 8) : IVec S_ 1 :=
  let main_v0 : IVec S3x640x14x4 32 := (extui 32 · natLt_8_32) main_arg1
  let main_c : IVec S_ 32 := constantI S_ 32 1#32
  let main_v1 : IVec S3x640x14x4 32 := broadcastInDim S3x640x14x4 ![] bcast_S_S3x640x14x4 main_c
  let main_v2 : IVec S3x640x14x4 1 := cmpi .sge main_v0 main_v1
  let main_c_0 : IVec S_ 32 := constantI S_ 32 254#32
  let main_v3 : IVec S3x640x14x4 32 := broadcastInDim S3x640x14x4 ![] bcast_S_S3x640x14x4 main_c_0
  let main_v4 : IVec S3x640x14x4 1 := cmpi .sle main_v0 main_v3
  let main_v5 : IVec S3x640x14x4 1 := andi main_v2 main_v4
  let main_c_1 : IVec S_ 1 := constantI S_ 1 1#1
  let main_v6 : IVec S_ 1 := (fun x v => Host.reduce IntOp.andi x v reducesTo_S3x640x14x4_S_d0_1_2_3 h_S_) main_v5 main_c_1
  let main_v7 : IVec S3x640x2x4 32 := (extui 32 · natLt_8_32) main_arg3
  let main_c_2 : IVec S_ 32 := constantI S_ 32 1#32
  let main_v8 : IVec S3x640x2x4 32 := broadcastInDim S3x640x2x4 ![] bcast_S_S3x640x2x4 main_c_2
  let main_v9 : IVec S3x640x2x4 1 := cmpi .sge main_v7 main_v8
  let main_c_3 : IVec S_ 32 := constantI S_ 32 254#32
  let main_v10 : IVec S3x640x2x4 32 := broadcastInDim S3x640x2x4 ![] bcast_S_S3x640x2x4 main_c_3
  let main_v11 : IVec S3x640x2x4 1 := cmpi .sle main_v7 main_v10
  let main_v12 : IVec S3x640x2x4 1 := andi main_v9 main_v11
  let main_c_4 : IVec S_ 1 := constantI S_ 1 1#1
  let main_v13 : IVec S_ 1 := (fun x v => Host.reduce IntOp.andi x v reducesTo_S3x640x2x4_S_d0_1_2_3 h_S_) main_v12 main_c_4
  let main_v14 : IVec S_ 1 := andi main_v6 main_v13
  let main_v15 : IVec S3x20x2x128 32 := (extui 32 · natLt_8_32) main_arg5
  let main_c_5 : IVec S_ 32 := constantI S_ 32 1#32
  let main_v16 : IVec S3x20x2x128 32 := broadcastInDim S3x20x2x128 ![] bcast_S_S3x20x2x128 main_c_5
  fn_part1 (F := F) main_v14 main_v15 main_v16
-- ==== Kernel.lean ====
abbrev S3x640x14x128 : Shape := ⟨4, ![3, 640, 14, 128]⟩
abbrev S3x640x14x4 : Shape := ⟨4, ![3, 640, 14, 4]⟩
abbrev S3x640x2x128 : Shape := ⟨4, ![3, 640, 2, 128]⟩
abbrev S3x640x2x4 : Shape := ⟨4, ![3, 640, 2, 4]⟩
abbrev S3x20x2x128 : Shape := ⟨4, ![3, 20, 2, 128]⟩
abbrev S3x14x640x128 : Shape := ⟨4, ![3, 14, 640, 128]⟩
abbrev S3x14x4x640 : Shape := ⟨4, ![3, 14, 4, 640]⟩
abbrev S3x2x640x128 : Shape := ⟨4, ![3, 2, 640, 128]⟩
abbrev S3x2x4x640 : Shape := ⟨4, ![3, 2, 4, 640]⟩
abbrev S3x2x20x128 : Shape := ⟨4, ![3, 2, 20, 128]⟩
abbrev S3x640x1792 : Shape := ⟨3, ![3, 640, 1792]⟩
abbrev S3x14x640 : Shape := ⟨3, ![3, 14, 640]⟩
abbrev S1x14x640x128 : Shape := ⟨4, ![1, 14, 640, 128]⟩
abbrev S1x14x4x640 : Shape := ⟨4, ![1, 14, 4, 640]⟩
abbrev S1x2x640x128 : Shape := ⟨4, ![1, 2, 640, 128]⟩
abbrev S1x2x4x640 : Shape := ⟨4, ![1, 2, 4, 640]⟩
abbrev S1x2x20x128 : Shape := ⟨4, ![1, 2, 20, 128]⟩
abbrev S1x640x1792 : Shape := ⟨3, ![1, 640, 1792]⟩
abbrev S1x14x640 : Shape := ⟨3, ![1, 14, 640]⟩
abbrev S1216x256 : Shape := ⟨2, ![1216, 256]⟩
abbrev S2x128x1216 : Shape := ⟨3, ![2, 128, 1216]⟩
abbrev S256x256 : Shape := ⟨2, ![256, 256]⟩
abbrev S128x128 : Shape := ⟨2, ![128, 128]⟩
abbrev S64x64 : Shape := ⟨2, ![64, 64]⟩
abbrev S1x1x640x128 : Shape := ⟨4, ![1, 1, 640, 128]⟩
abbrev S640x128 : Shape := ⟨2, ![640, 128]⟩
abbrev S128x640 : Shape := ⟨2, ![128, 640]⟩
abbrev S1x1x4x640 : Shape := ⟨4, ![1, 1, 4, 640]⟩
abbrev S4x640 : Shape := ⟨2, ![4, 640]⟩
abbrev S1x640 : Shape := ⟨2, ![1, 640]⟩
abbrev S32x640 : Shape := ⟨2, ![32, 640]⟩
abbrev S1x1x20x128 : Shape := ⟨4, ![1, 1, 20, 128]⟩
abbrev S20x128 : Shape := ⟨2, ![20, 128]⟩
abbrev S1x128 : Shape := ⟨2, ![1, 128]⟩
abbrev S32x128 : Shape := ⟨2, ![32, 128]⟩
abbrev S128x256 : Shape := ⟨2, ![128, 256]⟩
abbrev S256x128 : Shape := ⟨2, ![256, 128]⟩
abbrev S1x128x256 : Shape := ⟨3, ![1, 128, 256]⟩
abbrev S1x128x128 : Shape := ⟨3, ![1, 128, 128]⟩
abbrev S128x64 : Shape := ⟨2, ![128, 64]⟩
abbrev S64x128 : Shape := ⟨2, ![64, 128]⟩
abbrev S1x128x64 : Shape := ⟨3, ![1, 128, 64]⟩
abbrev S1x1x64x128 : Shape := ⟨4, ![1, 1, 64, 128]⟩
abbrev S1x1x4x64 : Shape := ⟨4, ![1, 1, 4, 64]⟩
abbrev S4x64 : Shape := ⟨2, ![4, 64]⟩
abbrev S4x256 : Shape := ⟨2, ![4, 256]⟩
abbrev S1x256 : Shape := ⟨2, ![1, 256]⟩
abbrev S32x256 : Shape := ⟨2, ![32, 256]⟩
abbrev S8x256 : Shape := ⟨2, ![8, 256]⟩
abbrev S64x256 : Shape := ⟨2, ![64, 256]⟩
abbrev S8x8x256 : Shape := ⟨3, ![8, 8, 256]⟩
abbrev S1x8x256 : Shape := ⟨3, ![1, 8, 256]⟩
abbrev S1x64 : Shape := ⟨2, ![1, 64]⟩
abbrev S1x1x64 : Shape := ⟨3, ![1, 1, 64]⟩
abbrev S16x256 : Shape := ⟨2, ![16, 256]⟩
abbrev S4x16x256 : Shape := ⟨3, ![4, 16, 256]⟩
abbrev S1x16x256 : Shape := ⟨3, ![1, 16, 256]⟩
abbrev S1x64x128 : Shape := ⟨3, ![1, 64, 128]⟩
abbrev S4x128 : Shape := ⟨2, ![4, 128]⟩
abbrev S8x128 : Shape := ⟨2, ![8, 128]⟩
abbrev S8x8x128 : Shape := ⟨3, ![8, 8, 128]⟩
abbrev S1x8x128 : Shape := ⟨3, ![1, 8, 128]⟩
abbrev S16x128 : Shape := ⟨2, ![16, 128]⟩
abbrev S4x16x128 : Shape := ⟨3, ![4, 16, 128]⟩
abbrev S1x16x128 : Shape := ⟨3, ![1, 16, 128]⟩
abbrev S16x8x256 : Shape := ⟨3, ![16, 8, 256]⟩
abbrev S8x16x256 : Shape := ⟨3, ![8, 16, 256]⟩
abbrev S16x8x128 : Shape := ⟨3, ![16, 8, 128]⟩
abbrev S8x16x128 : Shape := ⟨3, ![8, 16, 128]⟩
abbrev S32x8x256 : Shape := ⟨3, ![32, 8, 256]⟩
abbrev S16x16x256 : Shape := ⟨3, ![16, 16, 256]⟩
abbrev S32x8x128 : Shape := ⟨3, ![32, 8, 128]⟩
abbrev S16x16x128 : Shape := ⟨3, ![16, 16, 128]⟩

abbrev nBuf : Space → Nat
  | .hbm => 14
  | .vmem => 18
  | .smem => 0
  | _ => 0

abbrev bufTy : (tb : Table) → Fin (tcTables nBuf tb) → BufTy
  | .hbm, ⟨0, _⟩ => ⟨S3x640x14x128, .fp8e4m3⟩
  | .hbm, ⟨1, _⟩ => ⟨S3x640x14x4, .i8⟩
  | .hbm, ⟨2, _⟩ => ⟨S3x640x2x128, .fp8e4m3⟩
  | .hbm, ⟨3, _⟩ => ⟨S3x640x2x4, .i8⟩
  | .hbm, ⟨4, _⟩ => ⟨S3x640x2x128, .fp8e4m3⟩
  | .hbm, ⟨5, _⟩ => ⟨S3x20x2x128, .i8⟩
  | .hbm, ⟨6, _⟩ => ⟨S3x14x640x128, .fp8e4m3⟩
  | .hbm, ⟨7, _⟩ => ⟨S3x14x4x640, .i8⟩
  | .hbm, ⟨8, _⟩ => ⟨S3x2x640x128, .fp8e4m3⟩
  | .hbm, ⟨9, _⟩ => ⟨S3x2x4x640, .i8⟩
  | .hbm, ⟨10, _⟩ => ⟨S3x2x640x128, .fp8e4m3⟩
  | .hbm, ⟨11, _⟩ => ⟨S3x2x20x128, .i8⟩
  | .hbm, ⟨12, _⟩ => ⟨S3x640x1792, .bf16⟩
  | .hbm, ⟨13, _⟩ => ⟨S3x14x640, .f32⟩
  | .local _ .vmem, ⟨0, _⟩ => ⟨S1x14x640x128, .fp8e4m3⟩
  | .local _ .vmem, ⟨1, _⟩ => ⟨S1x14x640x128, .fp8e4m3⟩
  | .local _ .vmem, ⟨2, _⟩ => ⟨S1x14x4x640, .i8⟩
  | .local _ .vmem, ⟨3, _⟩ => ⟨S1x14x4x640, .i8⟩
  | .local _ .vmem, ⟨4, _⟩ => ⟨S1x2x640x128, .fp8e4m3⟩
  | .local _ .vmem, ⟨5, _⟩ => ⟨S1x2x640x128, .fp8e4m3⟩
  | .local _ .vmem, ⟨6, _⟩ => ⟨S1x2x4x640, .i8⟩
  | .local _ .vmem, ⟨7, _⟩ => ⟨S1x2x4x640, .i8⟩
  | .local _ .vmem, ⟨8, _⟩ => ⟨S1x2x640x128, .fp8e4m3⟩
  | .local _ .vmem, ⟨9, _⟩ => ⟨S1x2x640x128, .fp8e4m3⟩
  | .local _ .vmem, ⟨10, _⟩ => ⟨S1x2x20x128, .i8⟩
  | .local _ .vmem, ⟨11, _⟩ => ⟨S1x2x20x128, .i8⟩
  | .local _ .vmem, ⟨12, _⟩ => ⟨S1x640x1792, .bf16⟩
  | .local _ .vmem, ⟨13, _⟩ => ⟨S1x640x1792, .bf16⟩
  | .local _ .vmem, ⟨14, _⟩ => ⟨S1x14x640, .f32⟩
  | .local _ .vmem, ⟨15, _⟩ => ⟨S1x14x640, .f32⟩
  | .local _ .vmem, ⟨16, _⟩ => ⟨S1216x256, .bf16⟩
  | .local _ .vmem, ⟨17, _⟩ => ⟨S2x128x1216, .bf16⟩
  | _, _ => ⟨S3x640x14x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x14x640x128 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x14x4x640 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x640x128 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2x4x640 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2x640x128 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2x20x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x640x1792 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x14x640 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "inv_fp8_max" => some ((1 / 448 : ℝ) : EReal)
  | "log2_e" => some (((Real.log 2)⁻¹ : ℝ) : EReal)
  | "minus_inf" => some ⊥
  | "score_scale" => some (((Real.sqrt 128)⁻¹ : ℝ) : EReal)
  | "score_scale_log2e" => some (((Real.sqrt 128)⁻¹ * (Real.log 2)⁻¹ : ℝ) : EReal)
  | _ => none
-- ==== ReferenceIdeal.lean ====
abbrev S3x640x14x128 : Shape := ⟨4, ![3, 640, 14, 128]⟩
abbrev S3x640x14x4 : Shape := ⟨4, ![3, 640, 14, 4]⟩
abbrev S3x640x2x128 : Shape := ⟨4, ![3, 640, 2, 128]⟩
abbrev S3x640x2x4 : Shape := ⟨4, ![3, 640, 2, 4]⟩
abbrev S3x20x2x128 : Shape := ⟨4, ![3, 20, 2, 128]⟩
abbrev S3x14x640x128 : Shape := ⟨4, ![3, 14, 640, 128]⟩
abbrev S6x4480x128 : Shape := ⟨3, ![6, 4480, 128]⟩
abbrev S3x14x640x4 : Shape := ⟨4, ![3, 14, 640, 4]⟩
abbrev S6x4480x4 : Shape := ⟨3, ![6, 4480, 4]⟩
abbrev S3x2x640x128 : Shape := ⟨4, ![3, 2, 640, 128]⟩
abbrev S6x640x128 : Shape := ⟨3, ![6, 640, 128]⟩
abbrev S3x2x640x4 : Shape := ⟨4, ![3, 2, 640, 4]⟩
abbrev S6x640x4 : Shape := ⟨3, ![6, 640, 4]⟩
abbrev S3x2x20x128 : Shape := ⟨4, ![3, 2, 20, 128]⟩
abbrev S6x20x128 : Shape := ⟨3, ![6, 20, 128]⟩
abbrev S3x640x1792 : Shape := ⟨3, ![3, 640, 1792]⟩
abbrev S3x14x640 : Shape := ⟨3, ![3, 14, 640]⟩
abbrev S6x4480x4x32 : Shape := ⟨4, ![6, 4480, 4, 32]⟩
abbrev S6x4480x4x1 : Shape := ⟨4, ![6, 4480, 4, 1]⟩
abbrev S6x640x4x32 : Shape := ⟨4, ![6, 640, 4, 32]⟩
abbrev S6x640x4x1 : Shape := ⟨4, ![6, 640, 4, 1]⟩
abbrev S6x20x32x128 : Shape := ⟨4, ![6, 20, 32, 128]⟩
abbrev S6x20x1x128 : Shape := ⟨4, ![6, 20, 1, 128]⟩
abbrev S6x4480x640 : Shape := ⟨3, ![6, 4480, 640]⟩
abbrev S6x7x640x640 : Shape := ⟨4, ![6, 7, 640, 640]⟩
abbrev S6x7x640 : Shape := ⟨3, ![6, 7, 640]⟩
abbrev S6x7x640x1 : Shape := ⟨4, ![6, 7, 640, 1]⟩
abbrev S6x7x640x20x32 : Shape := ⟨5, ![6, 7, 640, 20, 32]⟩
abbrev S6x7x640x20 : Shape := ⟨4, ![6, 7, 640, 20]⟩
abbrev S6x7x640x20x1 : Shape := ⟨5, ![6, 7, 640, 20, 1]⟩

abbrev nBuf : Space → Nat
  | .hbm => 20
  | .vmem => 8
  | .smem => 0
  | _ => 0

abbrev bufTy : (tb : Table) → Fin (tcTables nBuf tb) → BufTy
  | .hbm, ⟨0, _⟩ => ⟨S3x640x14x128, .fp8e4m3⟩
  | .hbm, ⟨1, _⟩ => ⟨S3x640x14x4, .i8⟩
  | .hbm, ⟨2, _⟩ => ⟨S3x640x2x128, .fp8e4m3⟩
  | .hbm, ⟨3, _⟩ => ⟨S3x640x2x4, .i8⟩
  | .hbm, ⟨4, _⟩ => ⟨S3x640x2x128, .fp8e4m3⟩
  | .hbm, ⟨5, _⟩ => ⟨S3x20x2x128, .i8⟩
  | .hbm, ⟨6, _⟩ => ⟨S3x14x640x128, .fp8e4m3⟩
  | .hbm, ⟨7, _⟩ => ⟨S6x4480x128, .fp8e4m3⟩
  | .hbm, ⟨8, _⟩ => ⟨S3x14x640x4, .i8⟩
  | .hbm, ⟨9, _⟩ => ⟨S6x4480x4, .i8⟩
  | .hbm, ⟨10, _⟩ => ⟨S3x2x640x128, .fp8e4m3⟩
  | .hbm, ⟨11, _⟩ => ⟨S6x640x128, .fp8e4m3⟩
  | .hbm, ⟨12, _⟩ => ⟨S3x2x640x4, .i8⟩
  | .hbm, ⟨13, _⟩ => ⟨S6x640x4, .i8⟩
  | .hbm, ⟨14, _⟩ => ⟨S3x2x640x128, .fp8e4m3⟩
  | .hbm, ⟨15, _⟩ => ⟨S6x640x128, .fp8e4m3⟩
  | .hbm, ⟨16, _⟩ => ⟨S3x2x20x128, .i8⟩
  | .hbm, ⟨17, _⟩ => ⟨S6x20x128, .i8⟩
  | .hbm, ⟨18, _⟩ => ⟨S3x640x1792, .bf16⟩
  | .hbm, ⟨19, _⟩ => ⟨S3x14x640, .f32⟩
  | .local _ .vmem, ⟨0, _⟩ => ⟨S6x4480x128, .fp8e4m3⟩
  | .local _ .vmem, ⟨1, _⟩ => ⟨S6x4480x4, .i8⟩
  | .local _ .vmem, ⟨2, _⟩ => ⟨S6x640x128, .fp8e4m3⟩
  | .local _ .vmem, ⟨3, _⟩ => ⟨S6x640x4, .i8⟩
  | .local _ .vmem, ⟨4, _⟩ => ⟨S6x640x128, .fp8e4m3⟩
  | .local _ .vmem, ⟨5, _⟩ => ⟨S6x20x128, .i8⟩
  | .local _ .vmem, ⟨6, _⟩ => ⟨S3x640x1792, .bf16⟩
  | .local _ .vmem, ⟨7, _⟩ => ⟨S3x14x640, .f32⟩
  | _, _ => ⟨S3x640x14x128, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12_0 : Ref sig .tc := ⟨.hbm, 18, rfl⟩
abbrev main_v12_1 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "inv_fp8_max" => some ((1 / 448 : ℝ) : EReal)
  | "log2_e" => some (((Real.log 2)⁻¹ : ℝ) : EReal)
  | "score_scale" => some (((Real.sqrt 128)⁻¹ : ℝ) : EReal)
  | _ => none

abbrev grid0 : Pipeline.Grid := .none

abbrev stage0_0 : Fin 1 → Memref sig .tc .vmem S6x4480x128 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x4480x4 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x640x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x640x4 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x640x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x20x128 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x640x1792 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3x14x640 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Tile.lean ====
/- The kernel's body, one query tile of 64 positions of several heads at a time, as one definition in the printed
   program's vector operations: the program writes it out forty times, for ten query tiles and four groups of heads. -/
module

public import proofs.«01_k».proof.Proof.Gen.KernelIdeal.Frame

@[expose] public section

noncomputable section

namespace Cert.Attn

open Idealize.ShloMosaic Idealize.SL.Sem Cert.KernelIdeal

/-! ## Evidence at variable sizes -/

/-- Splitting rows in eights keeps the element count. -/
theorem reshape_split (H L : ℕ) : (⟨2, ![16 * H, L]⟩ : Shape).ShapeCasts ⟨3, ![2 * H, 8, L]⟩ := by
  simp [Shape.ShapeCasts, Shape.numel, Fin.prod_univ_succ]; ring
/-- Joining rows of eights keeps the element count. -/
theorem reshape_join (H L : ℕ) : (⟨3, ![2 * H, 8, L]⟩ : Shape).ShapeCasts ⟨2, ![16 * H, L]⟩ := by
  simp [Shape.ShapeCasts, Shape.numel, Fin.prod_univ_succ]; ring
/-- Splitting rows in sixteens keeps the element count. -/
theorem reshape_split16 (H L : ℕ) : (⟨2, ![16 * H, L]⟩ : Shape).ShapeCasts ⟨3, ![H, 16, L]⟩ := by
  simp [Shape.ShapeCasts, Shape.numel, Fin.prod_univ_succ]; ring
/-- Joining rows of sixteens keeps the element count. -/
theorem reshape_join16 (H L : ℕ) : (⟨3, ![H, 16, L]⟩ : Shape).ShapeCasts ⟨2, ![16 * H, L]⟩ := by
  simp [Shape.ShapeCasts, Shape.numel, Fin.prod_univ_succ]; ring
/-- A leading unit axis adds no element. -/
theorem reshape_lead (n L : ℕ) : (⟨2, ![n, L]⟩ : Shape).ShapeCasts ⟨3, ![1, n, L]⟩ := by
  simp [Shape.ShapeCasts, Shape.numel, Fin.prod_univ_succ]
/-- Dropping a leading unit axis drops no element. -/
theorem reshape_drop (n L : ℕ) : (⟨3, ![1, n, L]⟩ : Shape).ShapeCasts ⟨2, ![n, L]⟩ := by
  simp [Shape.ShapeCasts, Shape.numel, Fin.prod_univ_succ]
/-- A plane spreads along a new first axis. -/
theorem spread_ok (G n L : ℕ) : (⟨3, ![1, n, L]⟩ : Shape).Broadcasts ⟨3, ![G, n, L]⟩ := by
  refine ⟨le_rfl, fun a => ?_⟩
  match a with
  | ⟨0, _⟩ => exact .inl rfl
  | ⟨1, _⟩ => exact .inr fun _ => rfl
  | ⟨2, _⟩ => exact .inr fun _ => rfl
/-- A row spreads over rows. -/
theorem spread_row (n L : ℕ) : (⟨2, ![1, L]⟩ : Shape).Broadcasts ⟨2, ![n, L]⟩ := by
  refine ⟨le_rfl, fun a => ?_⟩
  match a with
  | ⟨0, _⟩ => exact .inl rfl
  | ⟨1, _⟩ => exact .inr fun _ => rfl
/-- The first of three axes can be reduced. -/
theorem reduces_first (G n L : ℕ) : (⟨3, ![G, n, L]⟩ : Shape).Reduces [0] ⟨2, ![n, L]⟩ := by
  refine ⟨rfl, Nat.two_pos, fun b => ?_⟩
  match b with
  | ⟨0, _⟩ => rfl
  | ⟨1, _⟩ => rfl
/-- Rows can be rotated. -/
theorem rotates_first (n L : ℕ) : (⟨2, ![n, L]⟩ : Shape).Rotates 0 none := ⟨le_rfl, fun _ h => by simp at h⟩
/-- A matrix of indices. -/
theorem iota_ok2 (n L : ℕ) (d : Fin 2) : (⟨2, ![n, L]⟩ : Shape).Iotas .tc 32 [d] :=
  ⟨List.nodup_singleton _, fun _ => ⟨.inr rfl, le_rfl⟩, fun h => absurd rfl h⟩
/-- A three-axis array of indices. -/
theorem iota_ok3 (G n L : ℕ) (d : Fin 3) : (⟨3, ![G, n, L]⟩ : Shape).Iotas .tc 32 [d] :=
  ⟨List.nodup_singleton _, fun _ => ⟨.inr rfl, (by decide : 2 ≤ 3)⟩, fun h => absurd rfl h⟩
/-- A matrix can be transposed. -/
theorem transposes_ok (n L : ℕ) : (⟨2, ![n, L]⟩ : Shape).Transposes [1, 0] ⟨2, ![L, n]⟩ := by
  refine ⟨(by decide : [(1 : Fin 2), 0].Perm (List.finRange 2)), rfl, fun b => ?_⟩
  match b with
  | ⟨0, _⟩ => rfl
  | ⟨1, _⟩ => rfl
/-- A window inside a matrix is a slice of it. -/
theorem slices_ok {n L n' L' o o' : ℕ} (h : o + n' ≤ n) (h' : o' + L' ≤ L) :
    (⟨2, ![n, L]⟩ : Shape).Slices ![o, o'] ⟨2, ![n', L']⟩ := by
  refine ⟨rfl, fun a => ?_⟩
  match a with
  | ⟨0, _⟩ => exact h
  | ⟨1, _⟩ => exact h'
/-- Two matrices of one width stack. -/
theorem concat_ok {n n' L : ℕ} :
    Shape.Concatenates [⟨2, ![n, L]⟩, ⟨2, ![n', L]⟩] ⟨2, ![n + n', L]⟩ 0 := by
  refine ⟨by simp, ?_, by simp⟩
  intro s hs
  simp only [List.mem_cons, List.not_mem_nil, or_false] at hs
  rcases hs with rfl | rfl <;> refine ⟨rfl, fun b hb => ?_⟩ <;> match b with
    | ⟨0, _⟩ => exact absurd rfl hb
    | ⟨1, _⟩ => rfl

/-- The two halves of the mixed tile's output, side by side. -/
theorem cat_out : Shape.Concatenates [⟨2, ![128, 128]⟩, ⟨2, ![128, 128]⟩] ⟨2, ![128, 256]⟩ 1 := by decide
/-- The queries of four heads, stacked. -/
theorem cat_q4 : Shape.Concatenates [⟨2, ![64, 128]⟩, ⟨2, ![64, 128]⟩, ⟨2, ![64, 128]⟩, ⟨2, ![64, 128]⟩] ⟨2, ![256, 128]⟩ 0 := by decide
/-- The scales of four heads, side by side. -/
theorem cat_s4 : Shape.Concatenates [⟨2, ![4, 64]⟩, ⟨2, ![4, 64]⟩, ⟨2, ![4, 64]⟩, ⟨2, ![4, 64]⟩] ⟨2, ![4, 256]⟩ 1 := by decide
/-- The queries of two heads, stacked. -/
theorem cat_q2 : Shape.Concatenates [⟨2, ![64, 128]⟩, ⟨2, ![64, 128]⟩] ⟨2, ![128, 128]⟩ 0 := by decide
/-- The scales of two heads, side by side. -/
theorem cat_s2 : Shape.Concatenates [⟨2, ![4, 64]⟩, ⟨2, ![4, 64]⟩] ⟨2, ![4, 128]⟩ 1 := by decide
/-- The mixed tile's two copies of its queries, stacked. -/
theorem cat_m : Shape.Concatenates [⟨2, ![128, 256]⟩, ⟨2, ![128, 256]⟩] ⟨2, ![256, 256]⟩ 0 := by decide
/-- A window inside a matrix. -/
theorem inb2 {m n o o' a b : ℕ} (h : o + a ≤ m) (h' : o' + b ≤ n) :
    ∀ x, (![o, o'] : Fin 2 → ℕ) x + (![a, b] : Fin 2 → ℕ) x ≤ (⟨2, ![m, n]⟩ : Shape).size x := fun x =>
  match x with
  | ⟨0, _⟩ => h
  | ⟨1, _⟩ => h'
/-- A window inside a three-axis array. -/
theorem inb3 {m n p o o' o'' a b c : ℕ} (h : o + a ≤ m) (h' : o' + b ≤ n) (h'' : o'' + c ≤ p) :
    ∀ x, (![o, o', o''] : Fin 3 → ℕ) x + (![a, b, c] : Fin 3 → ℕ) x ≤ (⟨3, ![m, n, p]⟩ : Shape).size x := fun x =>
  match x with
  | ⟨0, _⟩ => h
  | ⟨1, _⟩ => h'
  | ⟨2, _⟩ => h''
/-- A window inside a four-axis array. -/
theorem inb4 {m n p q o o' o'' o''' a b c d : ℕ} (h : o + a ≤ m) (h' : o' + b ≤ n) (h'' : o'' + c ≤ p) (h''' : o''' + d ≤ q) :
    ∀ x, (![o, o', o'', o'''] : Fin 4 → ℕ) x + (![a, b, c, d] : Fin 4 → ℕ) x ≤ (⟨4, ![m, n, p, q]⟩ : Shape).size x := fun x =>
  match x with
  | ⟨0, _⟩ => h
  | ⟨1, _⟩ => h'
  | ⟨2, _⟩ => h''
  | ⟨3, _⟩ => h'''

/-! ## The groups of keys of a tile -/

/-- The three sizes of a group of keys: 256, 128 and 64. -/
inductive Sz
  | big
  | mid
  | small

/-- A sixteenth of the size. -/
def Sz.H : Sz → ℕ
  | .big => 16
  | .mid => 8
  | .small => 4

/-- The rotations that spread a group's row maxima over the rows that hold keys of one block of 32. -/
def Sz.rolls : Sz → List (BitVec 32)
  | .big => []
  | .mid => [4#32]
  | .small => [4#32, 2#32]

/-- A group of keys: its size, its first key, and the first row of the permuted keys that holds it. -/
structure GDat where
  sz : Sz
  start : ℕ
  row : ℕ
  hrow : row + 16 * sz.H ≤ 1216
  hstart : start + 16 * sz.H ≤ 640

/-- The group of 256 keys from key 0 on. -/
def big0 : GDat := ⟨.big, 0, 0, by decide, by decide⟩
/-- The group of 256 keys from key 256 on. -/
def big1 : GDat := ⟨.big, 256, 256, by decide, by decide⟩
/-- The group of 128 keys from key 0 on. -/
def mid0 : GDat := ⟨.mid, 0, 512, by decide, by decide⟩
/-- The group of 128 keys from key 256 on. -/
def mid1 : GDat := ⟨.mid, 256, 640, by decide, by decide⟩
/-- The group of 128 keys from key 512 on. -/
def mid2 : GDat := ⟨.mid, 512, 768, by decide, by decide⟩
/-- The group of 64 keys from key 0 on. -/
def small0 : GDat := ⟨.small, 0, 896, by decide, by decide⟩
/-- The group of 64 keys from key 128 on. -/
def small1 : GDat := ⟨.small, 128, 960, by decide, by decide⟩
/-- The group of 64 keys from key 256 on. -/
def small2 : GDat := ⟨.small, 256, 1024, by decide, by decide⟩
/-- The group of 64 keys from key 384 on. -/
def small3 : GDat := ⟨.small, 384, 1088, by decide, by decide⟩
/-- The group of 64 keys from key 512 on. -/
def small4 : GDat := ⟨.small, 512, 1152, by decide, by decide⟩

/-- A query tile: its number and the groups of keys that its queries may see. -/
structure QTile where
  i : ℕ
  hi : i < 10
  g0 : GDat
  gs : List GDat

/-- The ten query tiles. -/
def qtiles : List QTile :=
  [⟨0, by decide, small0, []⟩, ⟨1, by decide, mid0, []⟩, ⟨2, by decide, mid0, [small1]⟩, ⟨3, by decide, big0, []⟩,
   ⟨4, by decide, big0, [small2]⟩, ⟨5, by decide, big0, [mid1]⟩, ⟨6, by decide, big0, [mid1, small3]⟩,
   ⟨7, by decide, big0, [big1]⟩, ⟨8, by decide, big0, [big1, small4]⟩, ⟨9, by decide, big0, [big1, mid2]⟩]

/-! ## One group's work -/

section Body

variable {F : FTy → Type} [FloatOps F] [Named F]

/-- The lane numbers. -/
abbrev lane (L : ℕ) : IVec ⟨2, ![8, L]⟩ 32 := iota .tc ⟨2, ![8, L]⟩ 32 [1] (iota_ok2 8 L 1)
/-- The row numbers. -/
abbrev sub (L : ℕ) : IVec ⟨2, ![8, L]⟩ 32 := iota .tc ⟨2, ![8, L]⟩ 32 [0] (iota_ok2 8 L 0)

/-- The key that a group's row holds, less the group's first key: row `8 j + b` holds key `32 b + j` of a group of 256. -/
def keyWord {s : Shape} (x : IVec s 32) : Sz → IVec s 32
  | .big =>
    addi (muli (broadcast _ 32#32) (andi x (broadcast _ 7#32))) (shrsi x (broadcast _ 3#32))
  | .mid =>
    addi (addi (muli (broadcast _ 32#32) (andi (andi x (broadcast _ 7#32)) (broadcast _ 3#32)))
        (muli (broadcast _ 16#32) (shrsi (andi x (broadcast _ 7#32)) (broadcast _ 2#32))))
      (shrsi x (broadcast _ 3#32))
  | .small =>
    addi (addi (muli (broadcast _ 32#32) (andi (andi x (broadcast _ 7#32)) (broadcast _ 1#32)))
        (muli (broadcast _ 8#32) (shrsi (andi x (broadcast _ 7#32)) (broadcast _ 1#32))))
      (shrsi x (broadcast _ 3#32))

/-- The query position of each lane. -/
def qpos (L q0 : ℕ) : IVec ⟨2, ![8, L]⟩ 32 :=
  addi (broadcast _ (BitVec.ofNat 32 q0)) (andi (lane L) (broadcast _ 63#32))

/-- Which rows of the group hold keys that the lane's query may see. -/
def seen (L q0 : ℕ) (g : GDat) : IVec ⟨3, ![2 * g.sz.H, 8, L]⟩ 1 :=
  cmpi .sle (iota .tc ⟨3, ![2 * g.sz.H, 8, L]⟩ 32 [0] (iota_ok3 _ 8 L 0))
    (broadcastTo _ (shapeCast ⟨3, ![1, 8, L]⟩
        (subi (subi (qpos L q0) (broadcast _ (BitVec.ofNat 32 g.start))) (keyWord (sub L) g.sz)) (reshape_lead 8 L))
      (spread_ok _ 8 L))

variable {L Kc : ℕ}

/-- A group with its keys and values as loaded. -/
structure Grp (F : FTy → Type) (Kc : ℕ) where
  g : GDat
  k : FVec F ⟨2, ![16 * g.sz.H, Kc]⟩ .bf16
  v : FVec F ⟨3, ![1, 128, 16 * g.sz.H]⟩ .bf16
  v' : FVec F ⟨3, ![1, 128, 16 * g.sz.H]⟩ .bf16

/-- The group's scores, masked in the group of the diagonal. -/
def scores (q : FVec F ⟨2, ![Kc, L]⟩ .bf16) (q0 : ℕ) (x : Grp F Kc) : FVec F ⟨3, ![2 * x.g.sz.H, 8, L]⟩ .f32 :=
  if x.g.start + 16 * x.g.sz.H = q0 + 64 then
    select (seen L q0 x.g)
      (shapeCast _ (matmul (DotDims.plain (16 * x.g.sz.H) Kc L) none x.k q (constant _ .f32 0x00000000#32)) (reshape_split _ L))
      (broadcast _ (Named.named κ "minus_inf" 0xFF61B1E6#32))
  else
    shapeCast _ (matmul (DotDims.plain (16 * x.g.sz.H) Kc L) none x.k q (constant _ .f32 0x00000000#32)) (reshape_split _ L)

/-- `f` of a vector and itself rotated, for each rotation in turn. -/
def rolled (f : FVec F ⟨2, ![8, L]⟩ .f32 → FVec F ⟨2, ![8, L]⟩ .f32 → FVec F ⟨2, ![8, L]⟩ .f32) (rs : List (BitVec 32))
    (x : FVec F ⟨2, ![8, L]⟩ .f32) : FVec F ⟨2, ![8, L]⟩ .f32 :=
  rs.foldl (fun x r => f x (dynamicRotate 0 r none x (rotates_first 8 L))) x

/-- The maxima that the group's exponentials are taken against. -/
def gmax (q : FVec F ⟨2, ![Kc, L]⟩ .bf16) (q0 : ℕ) (x : Grp F Kc) : FVec F ⟨2, ![8, L]⟩ .f32 :=
  rolled maximumf x.g.sz.rolls
    (multiReduction .maximumf [0] ⟨2, ![8, L]⟩ (scores q q0 x) 0xFF800000#32 (reduces_first _ 8 L) (.inl rfl) rfl)

/-- The group's exponentials. -/
def gexp (q : FVec F ⟨2, ![Kc, L]⟩ .bf16) (q0 : ℕ) (x : Grp F Kc) : FVec F ⟨3, ![2 * x.g.sz.H, 8, L]⟩ .f32 :=
  exp2 (mulf (subf (scores q q0 x)
      (broadcastTo _ (shapeCast ⟨3, ![1, 8, L]⟩ (gmax q q0 x) (reshape_lead 8 L)) (spread_ok _ 8 L)))
    (broadcast _ (Named.named κ "score_scale_log2e" 0x3E0293EE#32)))

/-- The group's sums of exponentials, row by row. -/
def gsum (q : FVec F ⟨2, ![Kc, L]⟩ .bf16) (q0 : ℕ) (x : Grp F Kc) : FVec F ⟨2, ![8, L]⟩ .f32 :=
  multiReduction .add [0] ⟨2, ![8, L]⟩ (gexp q q0 x) 0x00000000#32 (reduces_first _ 8 L) (.inl rfl) rfl

/-! ## The tile -/

/-- The maximum of each lane's scores. -/
def tmax (q : FVec F ⟨2, ![Kc, L]⟩ .bf16) (q0 : ℕ) (x : Grp F Kc) (xs : List (Grp F Kc)) : FVec F ⟨2, ![8, L]⟩ .f32 :=
  rolled maximumf [4#32, 2#32, 1#32] (xs.foldl (fun m y => maximumf m (gmax q q0 y)) (gmax q q0 x))

/-- What brings a group's exponentials to the lane's maximum. -/
def alpha (q : FVec F ⟨2, ![Kc, L]⟩ .bf16) (q0 : ℕ) (x : Grp F Kc) (xs : List (Grp F Kc)) (y : Grp F Kc) :
    FVec F ⟨2, ![8, L]⟩ .f32 :=
  exp2 (mulf (subf (gmax q q0 y) (tmax q q0 x xs)) (broadcast _ (Named.named κ "score_scale_log2e" 0x3E0293EE#32)))

/-- Each lane's sum of exponentials. -/
def den (q : FVec F ⟨2, ![Kc, L]⟩ .bf16) (q0 : ℕ) (x : Grp F Kc) (xs : List (Grp F Kc)) : FVec F ⟨2, ![8, L]⟩ .f32 :=
  rolled addf [4#32, 2#32, 1#32]
    (xs.foldl (fun m y => addf m (mulf (alpha q q0 x xs y) (gsum q q0 y))) (mulf (alpha q q0 x xs x) (gsum q q0 x)))

/-- Each lane's logarithm, the second result, in row 0. -/
def lseRow (q : FVec F ⟨2, ![Kc, L]⟩ .bf16) (q0 : ℕ) (x : Grp F Kc) (xs : List (Grp F Kc)) : FVec F ⟨2, ![1, L]⟩ .f32 :=
  extractStridedSlice ⟨2, ![1, L]⟩ ![0, 0]
    (subf (addf (mulf (tmax q q0 x xs) (broadcast _ (Named.named κ "score_scale" 0x3DB504F3#32))) (log (den q q0 x xs)))
      (log (sitofp .f32 (addi (qpos L q0) (broadcast _ 1#32)))))
    (slices_ok (by decide) (Nat.le_of_eq (Nat.zero_add L)))

/-- One head's part of the row. -/
def lseOf (row : FVec F ⟨2, ![1, L]⟩ .f32) (n : ℕ) (h : 64 * n + 64 ≤ L) : FVec F ⟨3, ![1, 1, 64]⟩ .f32 :=
  shapeCast ⟨3, ![1, 1, 64]⟩ (extractStridedSlice ⟨2, ![1, 64]⟩ ![0, 64 * n] row (slices_ok (by decide) h)) (reshape_lead 1 64)

/-- One step of the exponent search: keep the bit if the power of two is at most `t`. -/
def ebStep (t : FVec F ⟨2, ![8, L]⟩ .f32) (c eb : IVec ⟨2, ![8, L]⟩ 32) : IVec ⟨2, ![8, L]⟩ 32 :=
  select (cmpf .oge t (bitcastToFloat .f32 c)) c eb

/-- The exponent bits of `t`. -/
def ebits (t : FVec F ⟨2, ![8, L]⟩ .f32) : IVec ⟨2, ![8, L]⟩ 32 :=
  [536870912#32, 268435456#32, 134217728#32, 67108864#32, 33554432#32, 16777216#32, 8388608#32].foldl
    (fun eb b => ebStep t (addi eb (broadcast _ b)) eb) (ebStep t (broadcast _ 1073741824#32) (broadcast _ 0#32))

/-- What the quantiser takes the scale from: the group's greatest weight over the greatest fp8 value. -/
def qarg (a : FVec F ⟨2, ![8, L]⟩ .f32) : FVec F ⟨2, ![8, L]⟩ .f32 :=
  select (cmpf .oeq (mulf a (broadcast _ (Named.named κ "inv_fp8_max" 0x3B124925#32))) (broadcast _ (Scalar.ofBits .f32 0x00000000#32)))
    (broadcast _ (Scalar.ofBits .f32 0x3F000000#32)) (mulf a (broadcast _ (Named.named κ "inv_fp8_max" 0x3B124925#32)))

/-- Exponentials quantised against `a` and decoded again. -/
def quantised {H : ℕ} (ex : FVec F ⟨3, ![2 * H, 8, L]⟩ .f32) (a : FVec F ⟨2, ![8, L]⟩ .f32) : FVec F ⟨2, ![16 * H, L]⟩ .bf16 :=
  shapeCast _ (mulf
    (shapeCast ⟨3, ![H, 16, L]⟩ (extf .bf16 (truncf .fp8e4m3
        (shapeCast ⟨2, ![16 * H, L]⟩ (minimumf (broadcast _ (Scalar.ofBits .f32 0x43E00000#32)) (maximumf (broadcast _ (Scalar.ofBits .f32 0xC3E00000#32))
          (mulf ex (broadcastTo _ (shapeCast ⟨3, ![1, 8, L]⟩
            (mulf a (bitcastToFloat .f32 (subi (broadcast _ 2122317824#32) (ebits (qarg a))))) (reshape_lead 8 L)) (spread_ok _ 8 L)))))
        (reshape_join H L)) (by decide)) (by decide)) (reshape_split16 H L))
    (broadcastTo _ (shapeCast ⟨3, ![1, 16, L]⟩ (truncf .bf16 (concatenate ⟨2, ![16, L]⟩ 0
        [⟨⟨2, ![8, L]⟩, bitcastToFloat .f32 (addi (ebits (qarg a)) (broadcast _ 8388608#32))⟩,
         ⟨⟨2, ![8, L]⟩, bitcastToFloat .f32 (addi (ebits (qarg a)) (broadcast _ 8388608#32))⟩] concat_ok) (by decide))
        (reshape_lead 16 L)) (spread_ok _ 16 L))) (reshape_join16 H L)

/-- A group's weights, quantised and decoded. -/
def weights (q : FVec F ⟨2, ![Kc, L]⟩ .bf16) (q0 : ℕ) (x : Grp F Kc) (xs : List (Grp F Kc)) (y : Grp F Kc) :
    FVec F ⟨2, ![16 * y.g.sz.H, L]⟩ .bf16 :=
  quantised (gexp q q0 y)
    (mulf (alpha q q0 x xs y) (divf (broadcast _ (Scalar.ofBits .f32 0x3F800000#32)) (den q q0 x xs)))

/-- A group's part of the output. -/
def gout (q : FVec F ⟨2, ![Kc, L]⟩ .bf16) (q0 : ℕ) (x : Grp F Kc) (xs : List (Grp F Kc)) (y : Grp F Kc) :
    FVec F ⟨2, ![128, L]⟩ .f32 :=
  matmul (DotDims.plain 128 (16 * y.g.sz.H) L) none (shapeCast ⟨2, ![128, 16 * y.g.sz.H]⟩ y.v (reshape_drop _ _)) (weights q q0 x xs y)
    (constant _ .f32 0x00000000#32)

/-- The tile's output, feature by lane. -/
def tout (q : FVec F ⟨2, ![Kc, L]⟩ .bf16) (q0 : ℕ) (x : Grp F Kc) (xs : List (Grp F Kc)) : FVec F ⟨2, ![128, L]⟩ .f32 :=
  xs.foldl (fun m y => addf m (gout q q0 x xs y)) (gout q q0 x xs x)

/-- A group's part of the output of lanes 128 to 255 from the second key-value head. -/
def gout' (q : FVec F ⟨2, ![Kc, 256]⟩ .bf16) (q0 : ℕ) (x : Grp F Kc) (xs : List (Grp F Kc)) (y : Grp F Kc) :
    FVec F ⟨2, ![128, 128]⟩ .f32 :=
  matmul (DotDims.plain 128 (16 * y.g.sz.H) 128) none (shapeCast ⟨2, ![128, 16 * y.g.sz.H]⟩ y.v' (reshape_drop _ _))
    (extractStridedSlice ⟨2, ![16 * y.g.sz.H, 128]⟩ ![0, 128] (weights q q0 x xs y)
      (slices_ok (Nat.le_of_eq (Nat.zero_add _)) (by decide)))
    (constant _ .f32 0x00000000#32)

/-- The output of the mixed tile's last lanes, from the second key-value head. -/
def tout' (q : FVec F ⟨2, ![Kc, 256]⟩ .bf16) (q0 : ℕ) (x : Grp F Kc) (xs : List (Grp F Kc)) : FVec F ⟨2, ![128, 128]⟩ .f32 :=
  xs.foldl (fun m y => addf m (gout' q q0 x xs y)) (gout' q q0 x xs x)

/-- The output of the tile whose last head alone reads the second key-value head. -/
def toutMixed (q : FVec F ⟨2, ![Kc, 256]⟩ .bf16) (q0 : ℕ) (x : Grp F Kc) (xs : List (Grp F Kc)) : FVec F ⟨2, ![128, 256]⟩ .f32 :=
  concatenate ⟨2, ![128, 256]⟩ 1
    [⟨⟨2, ![128, 128]⟩, extractStridedSlice ⟨2, ![128, 128]⟩ ![0, 0] (tout q q0 x xs) (slices_ok (by decide) (by decide))⟩,
     ⟨⟨2, ![128, 128]⟩, select (cmpi .slt (iota .tc ⟨2, ![128, 128]⟩ 32 [1] (iota_ok2 _ _ 1)) (broadcast _ 64#32))
        (extractStridedSlice ⟨2, ![128, 128]⟩ ![0, 128] (tout q q0 x xs) (slices_ok (by decide) (by decide)))
        (tout' q q0 x xs)⟩] cat_out

/-- One head's part of the output, as stored. -/
def outOf (o : FVec F ⟨2, ![128, L]⟩ .f32) (n : ℕ) (h : 64 * n + 64 ≤ L) : FVec F ⟨3, ![1, 64, 128]⟩ .bf16 :=
  shapeCast ⟨3, ![1, 64, 128]⟩ (extractStridedSlice ⟨2, ![64, 128]⟩ ![64 * n, 0]
    (transpose ⟨2, ![L, 128]⟩ [1, 0] (truncf .bf16 o (by decide)) (transposes_ok 128 L)) (slices_ok h (by decide))) (reshape_lead 64 128)

/-! ## The queries -/

/-- One head's queries of the tile. -/
def qRows (x : FVec F ⟨4, ![1, 1, 64, 128]⟩ .fp8e4m3) : FVec F ⟨2, ![64, 128]⟩ .fp8e4m3 := shapeCast ⟨2, ![64, 128]⟩ x (by decide)

/-- The scales of one head's queries of the tile. -/
def qScales (x : IVec ⟨4, ![1, 1, 4, 64]⟩ 8) : FVec F ⟨2, ![4, 64]⟩ .f32 :=
  bitcastToFloat .f32 (shli (extui 32 (shapeCast ⟨2, ![4, 64]⟩ x (by decide)) (by decide)) (broadcast _ 23#32))

/-- One block's scale for each of its 32 features. -/
def scaleRows {m : ℕ} (s : FVec F ⟨2, ![m, L]⟩ .bf16) (r : ℕ) (h : r + 1 ≤ m) : FVec F ⟨2, ![32, L]⟩ .bf16 :=
  broadcastTo _ (shapeCast ⟨2, ![1, L]⟩ (extractStridedSlice ⟨2, ![1, L]⟩ ![r, 0] s (slices_ok h (Nat.le_of_eq (Nat.zero_add L)))) rfl)
    (spread_row 32 L)

/-- Four blocks of 32 rows stack to 128. -/
theorem concat_ok4 {L : ℕ} :
    Shape.Concatenates [⟨2, ![32, L]⟩, ⟨2, ![32, L]⟩, ⟨2, ![32, L]⟩, ⟨2, ![32, L]⟩] ⟨2, ![128, L]⟩ 0 := by
  refine ⟨by simp, ?_, by simp⟩
  intro s hs
  simp only [List.mem_cons, List.not_mem_nil, or_false] at hs
  rcases hs with rfl | rfl | rfl | rfl <;> refine ⟨rfl, fun b hb => ?_⟩ <;> match b with
    | ⟨0, _⟩ => exact absurd rfl hb
    | ⟨1, _⟩ => rfl

/-- The decoded queries, feature by lane. -/
def decoded (q : FVec F ⟨2, ![L, 128]⟩ .fp8e4m3) (s : FVec F ⟨2, ![4, L]⟩ .f32) : FVec F ⟨2, ![128, L]⟩ .bf16 :=
  mulf (transpose ⟨2, ![128, L]⟩ [1, 0] (extf .bf16 q (by decide)) (transposes_ok L 128))
    (concatenate ⟨2, ![128, L]⟩ 0
      [⟨⟨2, ![32, L]⟩, scaleRows (truncf .bf16 s (by decide)) 0 (by decide)⟩, ⟨⟨2, ![32, L]⟩, scaleRows (truncf .bf16 s (by decide)) 1 (by decide)⟩,
       ⟨⟨2, ![32, L]⟩, scaleRows (truncf .bf16 s (by decide)) 2 (by decide)⟩, ⟨⟨2, ![32, L]⟩, scaleRows (truncf .bf16 s (by decide)) 3 (by decide)⟩] concat_ok4)

/-- The queries of four heads. -/
def cat4 (x : Fin 4 → FVec F ⟨4, ![1, 1, 64, 128]⟩ .fp8e4m3) : FVec F ⟨2, ![256, 128]⟩ .fp8e4m3 :=
  concatenate ⟨2, ![256, 128]⟩ 0 [⟨⟨2, ![64, 128]⟩, qRows (x 0)⟩, ⟨⟨2, ![64, 128]⟩, qRows (x 1)⟩, ⟨⟨2, ![64, 128]⟩, qRows (x 2)⟩,
    ⟨⟨2, ![64, 128]⟩, qRows (x 3)⟩] cat_q4
/-- The scales of four heads. -/
def scat4 (x : Fin 4 → IVec ⟨4, ![1, 1, 4, 64]⟩ 8) : FVec F ⟨2, ![4, 256]⟩ .f32 :=
  concatenate ⟨2, ![4, 256]⟩ 1 [⟨⟨2, ![4, 64]⟩, qScales (x 0)⟩, ⟨⟨2, ![4, 64]⟩, qScales (x 1)⟩, ⟨⟨2, ![4, 64]⟩, qScales (x 2)⟩,
    ⟨⟨2, ![4, 64]⟩, qScales (x 3)⟩] cat_s4
/-- The queries of two heads. -/
def cat2 (x : Fin 2 → FVec F ⟨4, ![1, 1, 64, 128]⟩ .fp8e4m3) : FVec F ⟨2, ![128, 128]⟩ .fp8e4m3 :=
  concatenate ⟨2, ![128, 128]⟩ 0 [⟨⟨2, ![64, 128]⟩, qRows (x 0)⟩, ⟨⟨2, ![64, 128]⟩, qRows (x 1)⟩] cat_q2
/-- The scales of two heads. -/
def scat2 (x : Fin 2 → IVec ⟨4, ![1, 1, 4, 64]⟩ 8) : FVec F ⟨2, ![4, 128]⟩ .f32 :=
  concatenate ⟨2, ![4, 128]⟩ 1 [⟨⟨2, ![4, 64]⟩, qScales (x 0)⟩, ⟨⟨2, ![4, 64]⟩, qScales (x 1)⟩] cat_s2

/-! ## The keys and values -/

/-- The matrix that brings a group's keys into the order of its rows. -/
def perm (z : Sz) : FVec F ⟨2, ![16 * z.H, 16 * z.H]⟩ .bf16 :=
  truncf .bf16 (sitofp .f32 (extui 32 (cmpi .eq (keyWord (iota .tc ⟨2, ![16 * z.H, 16 * z.H]⟩ 32 [0] (iota_ok2 _ _ 0)) z)
    (iota .tc ⟨2, ![16 * z.H, 16 * z.H]⟩ 32 [1] (iota_ok2 _ _ 1))) (by decide))) (by decide)

/-- The decoded keys of one head, feature by key. -/
def keysT (k : FVec F ⟨4, ![1, 1, 640, 128]⟩ .fp8e4m3) (s : IVec ⟨4, ![1, 1, 4, 640]⟩ 8) : FVec F ⟨2, ![128, 640]⟩ .bf16 :=
  decoded (shapeCast ⟨2, ![640, 128]⟩ k (by decide))
    (bitcastToFloat .f32 (shli (extui 32 (shapeCast ⟨2, ![4, 640]⟩ s (by decide)) (by decide)) (broadcast _ 23#32)))

/-- Twenty blocks of 32 rows stack to 640. -/
theorem cat_v : Shape.Concatenates ([0, 1, 2, 3, 4, 5, 6, 7, 8, 9, 10, 11, 12, 13, 14, 15, 16, 17, 18, 19].map
    fun _ : Fin 20 => ⟨2, ![32, 128]⟩) ⟨2, ![640, 128]⟩ 0 := by decide

/-- The decoded values of one head, key by feature. -/
def vals (v : FVec F ⟨4, ![1, 1, 640, 128]⟩ .fp8e4m3) (s : IVec ⟨4, ![1, 1, 20, 128]⟩ 8) : FVec F ⟨2, ![640, 128]⟩ .bf16 :=
  mulf (extf .bf16 (shapeCast ⟨2, ![640, 128]⟩ v (by decide) : FVec F ⟨2, ![640, 128]⟩ .fp8e4m3) (by decide))
    (concatenate ⟨2, ![640, 128]⟩ 0 ([0, 1, 2, 3, 4, 5, 6, 7, 8, 9, 10, 11, 12, 13, 14, 15, 16, 17, 18, 19].map
      fun r : Fin 20 => ⟨⟨2, ![32, 128]⟩, scaleRows (truncf .bf16 (bitcastToFloat .f32
        (shli (extui 32 (shapeCast ⟨2, ![20, 128]⟩ s (by decide)) (by decide)) (broadcast _ 23#32)) : FVec F ⟨2, ![20, 128]⟩ .f32) (by decide)) r.val r.isLt⟩) cat_v)

/-- A group's keys in the order of its rows. -/
def permK (kT : FVec F ⟨2, ![128, 640]⟩ .bf16) (g : GDat) : FVec F ⟨2, ![16 * g.sz.H, 128]⟩ .bf16 :=
  shapeCast _ (truncf .bf16 (matmul (DotDims.transposedRhs (16 * g.sz.H) (16 * g.sz.H) 128) none (perm g.sz)
    (extractStridedSlice ⟨2, ![128, 16 * g.sz.H]⟩ ![0, g.start] kT (slices_ok (by decide) g.hstart))
    (constant _ .f32 0x00000000#32)) (by decide)) rfl

/-- A group's values in the order of its rows, feature by row. -/
def permV (v : FVec F ⟨2, ![640, 128]⟩ .bf16) (g : GDat) : FVec F ⟨3, ![1, 128, 16 * g.sz.H]⟩ .bf16 :=
  shapeCast _ (transpose ⟨2, ![128, 16 * g.sz.H]⟩ [1, 0] (truncf .bf16 (matmul (DotDims.plain (16 * g.sz.H) (16 * g.sz.H) 128) none (perm g.sz)
    (extractStridedSlice ⟨2, ![16 * g.sz.H, 128]⟩ ![g.start, 0] v (slices_ok g.hstart (by decide)))
    (constant _ .f32 0x00000000#32)) (by decide)) (transposes_ok _ 128)) (reshape_lead _ _)

/-- The queries of the mixed tile against both key-value heads: zero in the half that the lane's head does not read. -/
def mixedQ (q : FVec F ⟨2, ![128, 256]⟩ .bf16) : FVec F ⟨2, ![256, 256]⟩ .bf16 :=
  concatenate ⟨2, ![256, 256]⟩ 0
    [⟨⟨2, ![128, 256]⟩, select (cmpi .slt (iota .tc ⟨2, ![128, 256]⟩ 32 [1] (iota_ok2 _ _ 1)) (broadcast _ 192#32)) q
        (broadcast _ (Scalar.ofBits .bf16 0x0000#16))⟩,
     ⟨⟨2, ![128, 256]⟩, select (cmpi .slt (iota .tc ⟨2, ![128, 256]⟩ 32 [1] (iota_ok2 _ _ 1)) (broadcast _ 192#32))
        (broadcast _ (Scalar.ofBits .bf16 0x0000#16)) q⟩] cat_m

end Body

/-! ## The stores -/

section Stores

variable {F : FTy → Type} [FloatOps F] [Named F]
/-- The load of one head's queries of a tile. -/
def ldQ (arg1 : Memref sig .tc .vmem S1x14x640x128 .fp8e4m3) (harg1 : arg1.IsWhole)
    (x0 : Vec F S1x14x640x128 .fp8e4m3)
    (i h : ℕ) (hi : i < 10) (hh : h < 14) : FVec F ⟨4, ![1, 1, 64, 128]⟩ .fp8e4m3 :=
  arg1.view.readAt (Elt F) (Rect.unit (s := S1x14x640x128) ![0, h, 64 * i, 0] ![1, 1, 64, 128]
    (inb4 (by decide) hh (by omega) (by decide))).toLoadRect (harg1.unread x0)
/-- The load of one head's scales of a tile. -/
def ldS (arg2 : Memref sig .tc .vmem S1x14x4x640 .i8) (harg2 : arg2.IsWhole)
    (x1 : Vec F S1x14x4x640 .i8)
    (i h : ℕ) (hi : i < 10) (hh : h < 14) : IVec ⟨4, ![1, 1, 4, 64]⟩ 8 :=
  arg2.view.readAt (Elt F) (Rect.unit (s := S1x14x4x640) ![0, h, 0, 64 * i] ![1, 1, 4, 64]
    (inb4 (by decide) hh (by decide) (by omega))).toLoadRect (harg2.unread x1)
/-- The load of a group's permuted keys, from column `c` on. -/
def ldK (arg9 : Memref sig .tc .vmem S1216x256 .bf16)
    (L9 : List (View.Piece (Elt F) S1216x256 .bf16))
    (g : GDat) (c Kc : ℕ) (hc : c + Kc ≤ 256) : FVec F ⟨2, ![16 * g.sz.H, Kc]⟩ .bf16 :=
  arg9.view.readCov L9 (Rect.unit (s := S1216x256) ![g.row, c] ![16 * g.sz.H, Kc] (inb2 g.hrow hc)).toLoadRect
/-- The load of a group's permuted values. -/
def ldV (arg10 : Memref sig .tc .vmem S2x128x1216 .bf16)
    (L10 : List (View.Piece (Elt F) S2x128x1216 .bf16))
    (g : GDat) (kv : ℕ) (hkv : kv < 2) : FVec F ⟨3, ![1, 128, 16 * g.sz.H]⟩ .bf16 :=
  arg10.view.readCov L10 (Rect.unit (s := S2x128x1216) ![kv, 0, g.row] ![1, 128, 16 * g.sz.H] (inb3 hkv (by decide) g.hrow)).toLoadRect

/-- A group as a tile of one key-value head loads it. -/
def grp (arg9 : Memref sig .tc .vmem S1216x256 .bf16)
    (arg10 : Memref sig .tc .vmem S2x128x1216 .bf16)
    (L9 : List (View.Piece (Elt F) S1216x256 .bf16))
    (L10 : List (View.Piece (Elt F) S2x128x1216 .bf16))
    (kv : ℕ) (hkv : kv < 2) (g : GDat) : Grp F 128 :=
  ⟨g, ldK arg9 L9 g (128 * kv) 128 (by omega), ldV arg10 L10 g kv hkv, ldV arg10 L10 g kv hkv⟩
/-- A group as the mixed tile loads it. -/
def grpM (arg9 : Memref sig .tc .vmem S1216x256 .bf16)
    (arg10 : Memref sig .tc .vmem S2x128x1216 .bf16)
    (L9 : List (View.Piece (Elt F) S1216x256 .bf16))
    (L10 : List (View.Piece (Elt F) S2x128x1216 .bf16))
    (g : GDat) : Grp F 256 :=
  ⟨g, ldK arg9 L9 g 0 256 (by decide), ldV arg10 L10 g 0 (by decide), ldV arg10 L10 g 1 (by decide)⟩

/-- The decoded queries of four heads. -/
def q4 (arg1 : Memref sig .tc .vmem S1x14x640x128 .fp8e4m3) (harg1 : arg1.IsWhole)
    (arg2 : Memref sig .tc .vmem S1x14x4x640 .i8) (harg2 : arg2.IsWhole)
    (x0 : Vec F S1x14x640x128 .fp8e4m3)
    (x1 : Vec F S1x14x4x640 .i8)
    (i h : ℕ) (hi : i < 10) (hh : h + 3 < 14) : FVec F ⟨2, ![128, 256]⟩ .bf16 :=
  decoded (cat4 fun n => ldQ arg1 harg1 x0 i (h + n.val) hi (by omega)) (scat4 fun n => ldS arg2 harg2 x1 i (h + n.val) hi (by omega))
/-- The decoded queries of two heads. -/
def q2 (arg1 : Memref sig .tc .vmem S1x14x640x128 .fp8e4m3) (harg1 : arg1.IsWhole)
    (arg2 : Memref sig .tc .vmem S1x14x4x640 .i8) (harg2 : arg2.IsWhole)
    (x0 : Vec F S1x14x640x128 .fp8e4m3)
    (x1 : Vec F S1x14x4x640 .i8)
    (i h : ℕ) (hi : i < 10) (hh : h + 1 < 14) : FVec F ⟨2, ![128, 128]⟩ .bf16 :=
  decoded (cat2 fun n => ldQ arg1 harg1 x0 i (h + n.val) hi (by omega)) (scat2 fun n => ldS arg2 harg2 x1 i (h + n.val) hi (by omega))

/-- The groups, last stored first. -/
def groups : List GDat := [small4, small3, small2, small1, small0, mid2, mid1, mid0, big1, big0]

/-- The load of one head's keys or values. -/
def ldKV (arg : Memref sig .tc .vmem S1x2x640x128 .fp8e4m3) (harg : arg.IsWhole) (x : Vec F S1x2x640x128 .fp8e4m3)
    (kv : ℕ) (hkv : kv < 2) : FVec F ⟨4, ![1, 1, 640, 128]⟩ .fp8e4m3 :=
  arg.view.readAt (Elt F) (Rect.unit (s := S1x2x640x128) ![0, kv, 0, 0] ![1, 1, 640, 128]
    (inb4 (by decide) hkv (by decide) (by decide))).toLoadRect (harg.unread x)
/-- The load of the scales of one head's keys. -/
def ldKS (arg : Memref sig .tc .vmem S1x2x4x640 .i8) (harg : arg.IsWhole) (x : Vec F S1x2x4x640 .i8)
    (kv : ℕ) (hkv : kv < 2) : IVec ⟨4, ![1, 1, 4, 640]⟩ 8 :=
  arg.view.readAt (Elt F) (Rect.unit (s := S1x2x4x640) ![0, kv, 0, 0] ![1, 1, 4, 640]
    (inb4 (by decide) hkv (by decide) (by decide))).toLoadRect (harg.unread x)
/-- The load of the scales of one head's values. -/
def ldVS (arg : Memref sig .tc .vmem S1x2x20x128 .i8) (harg : arg.IsWhole) (x : Vec F S1x2x20x128 .i8)
    (kv : ℕ) (hkv : kv < 2) : IVec ⟨4, ![1, 1, 20, 128]⟩ 8 :=
  arg.view.readAt (Elt F) (Rect.unit (s := S1x2x20x128) ![0, kv, 0, 0] ![1, 1, 20, 128]
    (inb4 (by decide) hkv (by decide) (by decide))).toLoadRect (harg.unread x)

/-- The stores of one head's keys, group by group. -/
def keyStores (arg3 : Memref sig .tc .vmem S1x2x640x128 .fp8e4m3) (harg3 : arg3.IsWhole)
    (arg4 : Memref sig .tc .vmem S1x2x4x640 .i8) (harg4 : arg4.IsWhole)
    (x2 : Vec F S1x2x640x128 .fp8e4m3) (x3 : Vec F S1x2x4x640 .i8) (kv : ℕ) (hkv : kv < 2) : List (View.Piece (Elt F) S1216x256 .bf16) :=
  groups.map fun g : GDat => ⟨Rect.unit (s := S1216x256) ![g.row, 128 * kv] ![16 * g.sz.H, 128] (inb2 (m := 1216) (n := 256) (o := g.row) (o' := 128 * kv) (a := 16 * g.sz.H) (b := 128) g.hrow (by omega)),
    permK (keysT (ldKV arg3 harg3 x2 kv hkv) (ldKS arg4 harg4 x3 kv hkv)) g⟩

/-- The stores of one head's values, group by group. -/
def valStores (arg5 : Memref sig .tc .vmem S1x2x640x128 .fp8e4m3) (harg5 : arg5.IsWhole)
    (arg6 : Memref sig .tc .vmem S1x2x20x128 .i8) (harg6 : arg6.IsWhole)
    (x4 : Vec F S1x2x640x128 .fp8e4m3) (x5 : Vec F S1x2x20x128 .i8) (kv : ℕ) (hkv : kv < 2) : List (View.Piece (Elt F) S2x128x1216 .bf16) :=
  groups.map fun g : GDat => ⟨Rect.unit (s := S2x128x1216) ![kv, 0, g.row] ![1, 128, 16 * g.sz.H] (inb3 hkv (by decide) g.hrow),
    permV (vals (ldKV arg5 harg5 x4 kv hkv) (ldVS arg6 harg6 x5 kv hkv)) g⟩

/-- The store of one head's logarithms. -/
def lsePiece {L : ℕ} (row : FVec F ⟨2, ![1, L]⟩ .f32) (i h n : ℕ) (hi : i < 10) (hh : h < 14) (hn : 64 * n + 64 ≤ L) :
    View.Piece (Elt F) S1x14x640 .f32 :=
  ⟨Rect.unit (s := S1x14x640) ![0, h, 64 * i] ![1, 1, 64] (inb3 (by decide) hh (by omega)), lseOf row n hn⟩
/-- The store of one head's output. -/
def outPiece {L : ℕ} (o : FVec F ⟨2, ![128, L]⟩ .f32) (i h n : ℕ) (hi : i < 10) (hh : h < 14) (hn : 64 * n + 64 ≤ L) :
    View.Piece (Elt F) S1x640x1792 .bf16 :=
  ⟨Rect.unit (s := S1x640x1792) ![0, 64 * i, 128 * h] ![1, 64, 128] (inb3 (by decide) (by omega) (by omega)), outOf o n hn⟩

/-- The stores of the logarithms of four heads. -/
def lse4 (row : FVec F ⟨2, ![1, 256]⟩ .f32) (i h : ℕ) (hi : i < 10) (hh : h + 3 < 14) : List (View.Piece (Elt F) S1x14x640 .f32) :=
  [lsePiece row i (h + 3) 3 hi hh (by decide), lsePiece row i (h + 2) 2 hi (by omega) (by decide),
   lsePiece row i (h + 1) 1 hi (by omega) (by decide), lsePiece row i h 0 hi (by omega) (by decide)]
/-- The stores of the logarithms of two heads. -/
def lse2 (row : FVec F ⟨2, ![1, 128]⟩ .f32) (i h : ℕ) (hi : i < 10) (hh : h + 1 < 14) : List (View.Piece (Elt F) S1x14x640 .f32) :=
  [lsePiece row i (h + 1) 1 hi hh (by decide), lsePiece row i h 0 hi (by omega) (by decide)]
/-- The stores of the outputs of four heads. -/
def out4 (o : FVec F ⟨2, ![128, 256]⟩ .f32) (i h : ℕ) (hi : i < 10) (hh : h + 3 < 14) : List (View.Piece (Elt F) S1x640x1792 .bf16) :=
  [outPiece o i (h + 3) 3 hi hh (by decide), outPiece o i (h + 2) 2 hi (by omega) (by decide),
   outPiece o i (h + 1) 1 hi (by omega) (by decide), outPiece o i h 0 hi (by omega) (by decide)]
/-- The stores of the outputs of two heads. -/
def out2 (o : FVec F ⟨2, ![128, 128]⟩ .f32) (i h : ℕ) (hi : i < 10) (hh : h + 1 < 14) : List (View.Piece (Elt F) S1x640x1792 .bf16) :=
  [outPiece o i (h + 1) 1 hi hh (by decide), outPiece o i h 0 hi (by omega) (by decide)]

/-- The stores of the logarithms of a query tile, last first. -/
def lseStores (arg1 : Memref sig .tc .vmem S1x14x640x128 .fp8e4m3) (harg1 : arg1.IsWhole)
    (arg2 : Memref sig .tc .vmem S1x14x4x640 .i8) (harg2 : arg2.IsWhole)
    (arg9 : Memref sig .tc .vmem S1216x256 .bf16)
    (arg10 : Memref sig .tc .vmem S2x128x1216 .bf16)
    (x0 : Vec F S1x14x640x128 .fp8e4m3)
    (x1 : Vec F S1x14x4x640 .i8)
    (L9 : List (View.Piece (Elt F) S1216x256 .bf16))
    (L10 : List (View.Piece (Elt F) S2x128x1216 .bf16))
    (t : QTile) : List (View.Piece (Elt F) S1x14x640 .f32) :=
  let g (kv : ℕ) (hkv : kv < 2) := grp arg9 arg10 L9 L10 kv hkv
  let gM := grpM arg9 arg10 L9 L10
  lse2 (lseRow (q2 arg1 harg1 arg2 harg2 x0 x1 t.i 12 t.hi (by decide)) (64 * t.i) (g 1 (by decide) t.g0) (t.gs.map (g 1 (by decide)))) t.i 12 t.hi (by decide)
  ++ lse4 (lseRow (q4 arg1 harg1 arg2 harg2 x0 x1 t.i 8 t.hi (by decide)) (64 * t.i) (g 1 (by decide) t.g0) (t.gs.map (g 1 (by decide)))) t.i 8 t.hi (by decide)
  ++ lse4 (lseRow (mixedQ (q4 arg1 harg1 arg2 harg2 x0 x1 t.i 4 t.hi (by decide))) (64 * t.i) (gM t.g0) (t.gs.map gM)) t.i 4 t.hi (by decide)
  ++ lse4 (lseRow (q4 arg1 harg1 arg2 harg2 x0 x1 t.i 0 t.hi (by decide)) (64 * t.i) (g 0 (by decide) t.g0) (t.gs.map (g 0 (by decide)))) t.i 0 t.hi (by decide)

/-- The stores of the output of a query tile, last first. -/
def outStores (arg1 : Memref sig .tc .vmem S1x14x640x128 .fp8e4m3) (harg1 : arg1.IsWhole)
    (arg2 : Memref sig .tc .vmem S1x14x4x640 .i8) (harg2 : arg2.IsWhole)
    (arg9 : Memref sig .tc .vmem S1216x256 .bf16)
    (arg10 : Memref sig .tc .vmem S2x128x1216 .bf16)
    (x0 : Vec F S1x14x640x128 .fp8e4m3)
    (x1 : Vec F S1x14x4x640 .i8)
    (L9 : List (View.Piece (Elt F) S1216x256 .bf16))
    (L10 : List (View.Piece (Elt F) S2x128x1216 .bf16))
    (t : QTile) : List (View.Piece (Elt F) S1x640x1792 .bf16) :=
  let g (kv : ℕ) (hkv : kv < 2) := grp arg9 arg10 L9 L10 kv hkv
  let gM := grpM arg9 arg10 L9 L10
  out2 (tout (q2 arg1 harg1 arg2 harg2 x0 x1 t.i 12 t.hi (by decide)) (64 * t.i) (g 1 (by decide) t.g0) (t.gs.map (g 1 (by decide)))) t.i 12 t.hi (by decide)
  ++ out4 (tout (q4 arg1 harg1 arg2 harg2 x0 x1 t.i 8 t.hi (by decide)) (64 * t.i) (g 1 (by decide) t.g0) (t.gs.map (g 1 (by decide)))) t.i 8 t.hi (by decide)
  ++ out4 (toutMixed (mixedQ (q4 arg1 harg1 arg2 harg2 x0 x1 t.i 4 t.hi (by decide))) (64 * t.i) (gM t.g0) (t.gs.map gM)) t.i 4 t.hi (by decide)
  ++ out4 (tout (q4 arg1 harg1 arg2 harg2 x0 x1 t.i 0 t.hi (by decide)) (64 * t.i) (g 0 (by decide) t.g0) (t.gs.map (g 0 (by decide)))) t.i 0 t.hi (by decide)

end Stores

end Cert.Attn
-- ==== Proof.Pieces.lean ====
/- The stores that the kernel's run finds are those of `Tile.lean`'s forty tiles. -/
module

public import proofs.«01_k».proof.Proof.Tile
public import Idealize.ShloMosaic.Lib.Pipeline.ValueKit
public import Idealize.ShloMosaic.Lib.Pipeline.ReadBack

@[expose] public section

set_option maxRecDepth 65536

noncomputable section

namespace Cert.Attn

open Idealize.ShloMosaic Idealize.SL.Sem Cert.KernelIdeal Cert.KernelIdeal.Gen

variable {F : FTy → Type} [FloatOps F] [Named F]
variable (c : Dev nD) (i : grid0.Coords) (arg1 : Memref sig .tc .vmem S1x14x640x128 .fp8e4m3) (harg1 : arg1.IsWhole) (arg2 : Memref sig .tc .vmem S1x14x4x640 .i8) (harg2 : arg2.IsWhole) (arg3 : Memref sig .tc .vmem S1x2x640x128 .fp8e4m3) (harg3 : arg3.IsWhole) (arg4 : Memref sig .tc .vmem S1x2x4x640 .i8) (harg4 : arg4.IsWhole) (arg5 : Memref sig .tc .vmem S1x2x640x128 .fp8e4m3) (harg5 : arg5.IsWhole) (arg6 : Memref sig .tc .vmem S1x2x20x128 .i8) (harg6 : arg6.IsWhole) (arg7 : Memref sig .tc .vmem S1x640x1792 .bf16) (harg7 : arg7.IsWhole) (arg8 : Memref sig .tc .vmem S1x14x640 .f32) (harg8 : arg8.IsWhole) (arg9 : Memref sig .tc .vmem S1216x256 .bf16) (harg9 : arg9.IsWhole) (arg10 : Memref sig .tc .vmem S2x128x1216 .bf16) (harg10 : arg10.IsWhole)
    (x0 : Vec F S1x14x640x128 .fp8e4m3) (x1 : Vec F S1x14x4x640 .i8) (x2 : Vec F S1x2x640x128 .fp8e4m3) (x3 : Vec F S1x2x4x640 .i8) (x4 : Vec F S1x2x640x128 .fp8e4m3) (x5 : Vec F S1x2x20x128 .i8)

/-- The stores of the permuted keys are those of the ten groups of both heads, last first. -/
theorem key_pieces : kernelRun0_A.sl.HS0_20 c arg3 harg3 arg4 harg4 x2 x3
    = keyStores arg3 harg3 arg4 harg4 x2 x3 1 (by decide) ++ keyStores arg3 harg3 arg4 harg4 x2 x3 0 (by decide) := by
  sl_kernel_rfl

/-- The stores of the permuted values are those of the ten groups of both heads, last first. -/
theorem val_pieces : kernelRun0_A.sl.HS1_20 c arg5 harg5 arg6 harg6 x4 x5
    = valStores arg5 harg5 arg6 harg6 x4 x5 1 (by decide) ++ valStores arg5 harg5 arg6 harg6 x4 x5 0 (by decide) := by
  sl_kernel_rfl

/-- The stores of the second result are those of the ten query tiles, last first. -/
theorem lse_pieces : (kernelRun0_A c i arg1 harg1 arg2 harg2 arg3 harg3 arg4 harg4 arg5 harg5 arg6 harg6 arg7 harg7 arg8 harg8 arg9 harg9 arg10 harg10 x0 x1 x2 x3 x4 x5).2.1
    = qtiles.reverse.flatMap (lseStores arg1 harg1 arg2 harg2 arg9 arg10 x0 x1 (kernelRun0_A.sl.HS0_20 c arg3 harg3 arg4 harg4 x2 x3)
        (kernelRun0_A.sl.HS1_20 c arg5 harg5 arg6 harg6 x4 x5)) := by
  sl_kernel_rfl

/-- The stores of the first result are those of the ten query tiles, last first. -/
theorem out_pieces : (kernelRun0_A c i arg1 harg1 arg2 harg2 arg3 harg3 arg4 harg4 arg5 harg5 arg6 harg6 arg7 harg7 arg8 harg8 arg9 harg9 arg10 harg10 x0 x1 x2 x3 x4 x5).1
    = qtiles.reverse.flatMap (outStores arg1 harg1 arg2 harg2 arg9 arg10 x0 x1 (kernelRun0_A.sl.HS0_20 c arg3 harg3 arg4 harg4 x2 x3)
        (kernelRun0_A.sl.HS1_20 c arg5 harg5 arg6 harg6 x4 x5)) := by
  sl_kernel_rfl

end Cert.Attn
-- ==== Proof.Core.lean ====
/- The arithmetic on extended reals that the kernel's softmax and its quantiser do, apart from any program. -/
module

public import Idealize.ShloMosaic.PureOps.Ideal
public import Idealize.ShloMosaic.Lib.Pointwise

@[expose] public section

noncomputable section

namespace Cert.Attn

open Idealize.ShloMosaic

/-- What a difference of scores is multiplied by before it becomes an exponent of two. -/
def C2 : ℝ := (Real.sqrt 128)⁻¹ * (Real.log 2)⁻¹

/-- The factor is positive. -/
theorem C2_pos : 0 < C2 := by
  have : 0 < Real.log 2 := Real.log_pos one_lt_two
  unfold C2; positivity

/-- The exponential of score `s` against `m`. -/
def E (s m : EReal) : EReal := Ideal.exp2 ((s - m) * (C2 : EReal))

/-- The exponential of a masked score is zero. -/
theorem E_bot (m : EReal) : E ⊥ m = 0 := by
  have h : (⊥ : EReal) - m = ⊥ := by rw [sub_eq_add_neg, EReal.bot_add]
  rw [E, h, EReal.bot_mul_coe_of_pos C2_pos]; rfl

/-- Against an infinite maximum every exponential is zero. -/
theorem E_top (s : EReal) : E s ⊤ = 0 := by
  have h : s - (⊤ : EReal) = ⊥ := by rw [sub_eq_add_neg, EReal.neg_top, EReal.add_bot]
  rw [E, h, EReal.bot_mul_coe_of_pos C2_pos]; rfl

/-- The exponential of reals. -/
theorem E_coe (s m : ℝ) : E s m = (((2 : ℝ) ^ ((s - m) * C2) : ℝ) : EReal) := by
  rw [E, ← EReal.coe_sub, ← EReal.coe_mul]; rfl

/-- An exponential against a real maximum is a real in the unit interval. -/
theorem E_unit {s : EReal} {m : ℝ} (h : s ≤ m) : ∃ e : ℝ, E s m = e ∧ 0 ≤ e ∧ e ≤ 1 := by
  induction s using EReal.rec with
  | bot => exact ⟨0, by rw [E_bot]; rfl, le_rfl, zero_le_one⟩
  | top => exact absurd h (by simp)
  | coe s =>
    refine ⟨_, E_coe s m, by positivity, ?_⟩
    have : (s - m) * C2 ≤ 0 := mul_nonpos_of_nonpos_of_nonneg (sub_nonpos.2 (EReal.coe_le_coe_iff.1 h)) C2_pos.le
    exact Real.rpow_le_one_of_one_le_of_nonpos one_le_two this

/-- No exponential below the maximum is negative. -/
theorem E_nonneg {s m : EReal} (h : s ≤ m) : 0 ≤ E s m := by
  induction m using EReal.rec with
  | bot => rw [le_bot_iff.1 h, E_bot]
  | top => rw [E_top]
  | coe m => obtain ⟨e, he, h0, _⟩ := E_unit h; rw [he]; exact_mod_cast h0

/-- Exponentials against a group's maximum are brought to the greatest maximum by one factor. -/
theorem E_mul {s g m : EReal} (h : s ≤ g) (h' : g ≤ m) : E g m * E s g = E s m := by
  induction m using EReal.rec with
  | bot => obtain rfl := le_bot_iff.1 h'; obtain rfl := le_bot_iff.1 h; simp [E_bot]
  | top => rw [E_top, E_top, zero_mul]
  | coe m =>
    induction g using EReal.rec with
    | bot => obtain rfl := le_bot_iff.1 h; simp [E_bot]
    | top => exact absurd h' (by simp)
    | coe g =>
      induction s using EReal.rec with
      | bot => simp [E_bot]
      | top => exact absurd h (by simp)
      | coe s =>
        rw [E_coe, E_coe, E_coe, ← EReal.coe_mul, ← Real.rpow_add two_pos]
        congr 2; ring

/-- A nonnegative factor goes into a finite sum of nonnegative terms. -/
theorem mul_sum_nonneg {ι : Type*} (s : Finset ι) (a : EReal) (f : ι → EReal) (hf : ∀ i ∈ s, 0 ≤ f i) :
    a * ∑ i ∈ s, f i = ∑ i ∈ s, a * f i := by
  classical
  induction s using Finset.induction_on with
  | empty => simp
  | insert i s hi ih =>
    rw [Finset.sum_insert hi, Finset.sum_insert hi, EReal.left_distrib_of_nonneg (hf i (Finset.mem_insert_self i s))
      (Finset.sum_nonneg fun j hj => hf j (Finset.mem_insert_of_mem hj)), ih fun j hj => hf j (Finset.mem_insert_of_mem hj)]

/-! ## The eight lanes of sublanes -/

/-- Rotation of eight entries. -/
def rot (r : BitVec 32) (b : Fin 8) : Fin 8 := ⟨(b.val + 8 - r.toNat % 8) % 8, Nat.mod_lt _ (by decide)⟩

/-- `f` of entries and the entries rotated, for each rotation in turn. -/
def rolledE (f : EReal → EReal → EReal) (rs : List (BitVec 32)) (X : Fin 8 → EReal) : Fin 8 → EReal :=
  rs.foldl (fun X r b => f (X b) (X (rot r b))) X

/-- A rotated maximum is at least the entry. -/
theorem le_rolled (rs : List (BitVec 32)) (X : Fin 8 → EReal) (b : Fin 8) : X b ≤ rolledE max rs X b := by
  induction rs generalizing X with
  | nil => exact le_rfl
  | cons r rs ih => exact (le_max_left _ _).trans (ih fun b => max (X b) (X (rot r b)))

/-- A rotated maximum is at most a bound of all entries. -/
theorem rolled_le (rs : List (BitVec 32)) (X : Fin 8 → EReal) (M : EReal) (h : ∀ b, X b ≤ M) (b : Fin 8) :
    rolledE max rs X b ≤ M := by
  induction rs generalizing X with
  | nil => exact h b
  | cons r rs ih => exact ih (fun b => max (X b) (X (rot r b))) fun b => max_le (h b) (h _)

/-- Every sublane is reached from every other by some of the rotations 4, 2 and 1. -/
theorem rot_reach : ∀ b c : Fin 8, c = b ∨ c = rot 4#32 b ∨ c = rot 2#32 b ∨ c = rot 4#32 (rot 2#32 b) ∨ c = rot 1#32 b
    ∨ c = rot 4#32 (rot 1#32 b) ∨ c = rot 2#32 (rot 1#32 b) ∨ c = rot 4#32 (rot 2#32 (rot 1#32 b)) := by decide

/-- All eight entries are reached by the rotations 4, 2 and 1. -/
theorem rolled_all (X : Fin 8 → EReal) (b c : Fin 8) : X c ≤ rolledE max [4#32, 2#32, 1#32] X b := by
  simp only [rolledE, List.foldl_cons, List.foldl_nil, le_max_iff]
  rcases rot_reach b c with rfl | rfl | rfl | rfl | rfl | rfl | rfl | rfl <;> simp only [le_refl, true_or, or_true]

/-- The sum over the rotations 4, 2 and 1 is the sum of all eight entries. -/
theorem rolled_sum (X : Fin 8 → EReal) (b : Fin 8) : rolledE (· + ·) [4#32, 2#32, 1#32] X b = ∑ c, X c := by
  rw [Fin.sum_univ_eight]
  simp only [rolledE, List.foldl_cons, List.foldl_nil]
  have h : ∀ b : Fin 8, ∀ Y : Fin 8 → EReal, Y b + Y (rot 4#32 b) + (Y (rot 2#32 b) + Y (rot 4#32 (rot 2#32 b)))
      + (Y (rot 1#32 b) + Y (rot 4#32 (rot 1#32 b)) + (Y (rot 2#32 (rot 1#32 b)) + Y (rot 4#32 (rot 2#32 (rot 1#32 b)))))
      = Y 0 + Y 1 + Y 2 + Y 3 + Y 4 + Y 5 + Y 6 + Y 7 := by
    intro b Y
    match b with
    | 0 => show Y 0 + Y 4 + (Y 6 + Y 2) + (Y 7 + Y 3 + (Y 5 + Y 1)) = _; abel
    | 1 => show Y 1 + Y 5 + (Y 7 + Y 3) + (Y 0 + Y 4 + (Y 6 + Y 2)) = _; abel
    | 2 => show Y 2 + Y 6 + (Y 0 + Y 4) + (Y 1 + Y 5 + (Y 7 + Y 3)) = _; abel
    | 3 => show Y 3 + Y 7 + (Y 1 + Y 5) + (Y 2 + Y 6 + (Y 0 + Y 4)) = _; abel
    | 4 => show Y 4 + Y 0 + (Y 2 + Y 6) + (Y 3 + Y 7 + (Y 1 + Y 5)) = _; abel
    | 5 => show Y 5 + Y 1 + (Y 3 + Y 7) + (Y 4 + Y 0 + (Y 2 + Y 6)) = _; abel
    | 6 => show Y 6 + Y 2 + (Y 4 + Y 0) + (Y 5 + Y 1 + (Y 3 + Y 7)) = _; abel
    | 7 => show Y 7 + Y 3 + (Y 5 + Y 1) + (Y 6 + Y 2 + (Y 4 + Y 0)) = _; abel
  exact h b X

/-! ## A lane's groups -/

/-- The scores of one lane in one group: `n` for each of the eight sublanes. -/
structure LG where
  n : ℕ
  rolls : List (BitVec 32)
  S : Fin n → Fin 8 → EReal

/-- The maxima that the exponentials are taken against. -/
def LG.mx (g : LG) : Fin 8 → EReal := rolledE max g.rolls fun b => Finset.univ.fold max ⊥ fun j => g.S j b

/-- The sums of the exponentials. -/
def LG.sm (g : LG) (b : Fin 8) : EReal := ∑ j, E (g.S j b) (g.mx b)

/-- The lane's maximum, as it is computed. -/
def tmx (x : LG) (xs : List LG) : Fin 8 → EReal :=
  rolledE max [4#32, 2#32, 1#32] (xs.foldl (fun m y b => max (m b) (y.mx b)) x.mx)

/-- The lane's sum of exponentials, as it is computed. -/
def dn (x : LG) (xs : List LG) : Fin 8 → EReal :=
  rolledE (· + ·) [4#32, 2#32, 1#32] (xs.foldl (fun m y b => m b + E (y.mx b) (tmx x xs b) * y.sm b)
    fun b => E (x.mx b) (tmx x xs b) * x.sm b)

/-- Every score is at most its group's maximum. -/
theorem LG.le_mx (g : LG) (j : Fin g.n) (b : Fin 8) : g.S j b ≤ g.mx b :=
  le_trans ((Finset.le_fold_max (s := Finset.univ) (f := fun j => g.S j b) (b := ⊥) (g.S j b)).2 (.inr ⟨j, Finset.mem_univ _, le_rfl⟩))
    (le_rolled g.rolls (fun b => Finset.univ.fold max ⊥ fun j => g.S j b) b)

/-- A group's maximum is at most a bound of its scores. -/
theorem LG.mx_le (g : LG) (M : EReal) (h : ∀ j b, g.S j b ≤ M) (b : Fin 8) : g.mx b ≤ M :=
  rolled_le _ _ _ (fun b => (Finset.fold_max_le _).2 ⟨bot_le, fun j _ => h j b⟩) b

/-- A running maximum is at least its start and every term. -/
theorem le_foldl_max (xs : List LG) (m : Fin 8 → EReal) (b : Fin 8) :
    m b ≤ xs.foldl (fun m y b => max (m b) (y.mx b)) m b ∧ ∀ g ∈ xs, g.mx b ≤ xs.foldl (fun m y b => max (m b) (y.mx b)) m b := by
  induction xs generalizing m with
  | nil => simp
  | cons y ys ih =>
    obtain ⟨h, h'⟩ := ih fun b => max (m b) (y.mx b)
    refine ⟨(le_max_left _ _).trans h, fun g hg => ?_⟩
    rcases List.mem_cons.1 hg with rfl | hg
    · exact (le_max_right _ _).trans h
    · exact h' g hg

/-- A running maximum is at most a bound of its start and of every term. -/
theorem foldl_max_le (xs : List LG) (m : Fin 8 → EReal) (M : EReal) (hm : ∀ b, m b ≤ M) (h : ∀ g ∈ xs, ∀ b, g.mx b ≤ M) (b : Fin 8) :
    xs.foldl (fun m y b => max (m b) (y.mx b)) m b ≤ M := by
  induction xs generalizing m with
  | nil => exact hm b
  | cons y ys ih =>
    exact ih (fun b => max (m b) (y.mx b)) (fun b => max_le (hm b) (h y (by simp) b)) fun g hg => h g (by simp [hg])

/-- The lane's maximum is at least every score. -/
theorem mx_le_tmx (x : LG) (xs : List LG) (g : LG) (hg : g ∈ x :: xs) (b c : Fin 8) : g.mx c ≤ tmx x xs b := by
  refine le_trans ?_ (rolled_all _ b c)
  rcases List.mem_cons.1 hg with rfl | hg
  · exact (le_foldl_max _ _ _).1
  · exact (le_foldl_max _ _ _).2 g hg

/-- The lane's maximum is at most a bound of the scores. -/
theorem tmx_le (x : LG) (xs : List LG) (M : EReal) (h : ∀ g ∈ x :: xs, ∀ j b, g.S j b ≤ M) (b : Fin 8) : tmx x xs b ≤ M :=
  rolled_le _ _ _ (fun b => foldl_max_le _ _ _ (fun b => x.mx_le _ (h x (by simp)) b)
    (fun g hg b => g.mx_le _ (h g (by simp [hg])) b) b) b

/-- The lane's sum of exponentials is the sum over every score of the groups, against the lane's maximum. -/
theorem dn_eq (x : LG) (xs : List LG) (M : EReal) (hM : ∀ b, tmx x xs b = M) (b : Fin 8) :
    dn x xs b = ((x :: xs).map fun g => ∑ c, ∑ j, E (g.S j c) M).sum := by
  have hE : ∀ g ∈ x :: xs, ∀ c, E (g.mx c) (tmx x xs c) * g.sm c = ∑ j, E (g.S j c) M := fun g hg c => by
    rw [LG.sm, mul_sum_nonneg _ _ _ fun j _ => E_nonneg (g.le_mx j c)]
    refine Finset.sum_congr rfl fun j _ => ?_
    rw [E_mul (g.le_mx j c) (mx_le_tmx x xs g hg c c), hM]
  have hf : ∀ (ys : List LG) (m : Fin 8 → EReal), (∀ g ∈ ys, g ∈ x :: xs) →
      ∑ c, ys.foldl (fun m y b => m b + E (y.mx b) (tmx x xs b) * y.sm b) m c
        = ∑ c, m c + (ys.map fun g => ∑ c, ∑ j, E (g.S j c) M).sum := by
    intro ys
    induction ys with
    | nil => intro m _; simp
    | cons y ys ih =>
      intro m hy
      rw [List.foldl_cons, ih _ fun g hg => hy g (by simp [hg]), List.map_cons, List.sum_cons, ← add_assoc, Finset.sum_add_distrib]
      congr 2
      exact Finset.sum_congr rfl fun c _ => hE y (hy y (by simp)) c
  rw [dn, rolled_sum, hf xs _ fun g hg => by simp [hg], List.map_cons, List.sum_cons]
  congr 1
  exact Finset.sum_congr rfl fun c _ => hE x (by simp) c

/-! ## The quantiser's scale -/

/-- The power of two with exponent field `n`; zero for the field zero. -/
def pw (n : ℕ) : ℝ := if n = 0 then 0 else (2 : ℝ) ^ ((n : ℤ) - 127)

/-- The bits of an exponent field alone read as its power of two. -/
theorem ofBits_shift (n : ℕ) (h : n ≤ 254) : Ideal.ofBits .f32 (BitVec.ofNat 32 (n * 8388608)) = (pw n : EReal) := by
  have hn : (BitVec.ofNat 32 (n * 8388608)).toNat = n * 8388608 := by
    rw [BitVec.toNat_ofNat, Nat.mod_eq_of_lt (by omega)]
  have h1 : (BitVec.ofNat 32 (n * 8388608)).extractLsb' (8 + 23) 1 = 0#1 := by
    apply BitVec.eq_of_toNat_eq
    rw [BitVec.extractLsb'_toNat, hn, Nat.shiftRight_eq_div_pow]
    simp; omega
  have h2 : ((BitVec.ofNat 32 (n * 8388608)).extractLsb' 23 8).toNat = n := by
    rw [BitVec.extractLsb'_toNat, hn, Nat.shiftRight_eq_div_pow]; omega
  have h3 : ((BitVec.ofNat 32 (n * 8388608)).extractLsb' 0 23).toNat = 0 := by
    rw [BitVec.extractLsb'_toNat, hn, Nat.shiftRight_eq_div_pow]; omega
  show Ideal.ieee 8 23 _ = _
  rw [Ideal.ieee]
  simp only [h1, h2, h3]
  rw [if_neg (by omega)]
  by_cases h0 : n = 0
  · simp [h0, pw]
  · rw [if_neg h0, pw, if_neg h0]
    congr 1
    simp only [show ((0#1 : BitVec 1) == 1#1) = false from rfl]
    norm_num
    rw [show (8388608 : ℝ) = (2 : ℝ) ^ (23 : ℤ) by norm_num, ← zpow_add₀ (by norm_num : (2 : ℝ) ≠ 0)]
    congr 1; ring

/-- The powers grow with the field. -/
theorem pw_mono {a b : ℕ} (h : a ≤ b) : pw a ≤ pw b := by
  unfold pw
  split_ifs with h1 h2 h2
  · exact le_rfl
  · positivity
  · omega
  · exact zpow_le_zpow_right₀ one_le_two (by omega)

/-- One step of the exponent search on one entry. -/
def ebStepE (t : EReal) (c eb : BitVec 32) : BitVec 32 := if Ideal.ofBits .f32 c ≤ t then c else eb

/-- The exponent search on one entry. -/
def ebE (t : EReal) : BitVec 32 :=
  [536870912#32, 268435456#32, 134217728#32, 67108864#32, 33554432#32, 16777216#32, 8388608#32].foldl
    (fun eb b => ebStepE t (eb + b) eb) (ebStepE t 1073741824#32 0#32)

/-- A step halves the interval that holds the exponent field. -/
theorem ebStep_spec (t : ℝ) (N d : ℕ) (eb c : BitVec 32) (he : eb = BitVec.ofNat 32 (N * 8388608)) (hc : c = BitVec.ofNat 32 (d * 8388608))
    (hN : N + 2 * d ≤ 128) (h0 : pw N ≤ t) (h1 : t < pw (N + 2 * d)) :
    ∃ N', ebStepE t (eb + c) eb = BitVec.ofNat 32 (N' * 8388608) ∧ pw N' ≤ t ∧ t < pw (N' + d) ∧ N' + d ≤ 128 := by
  have hs : eb + c = BitVec.ofNat 32 ((N + d) * 8388608) := by
    rw [he, hc, ← BitVec.ofNat_add, Nat.add_mul]
  rw [hs, ebStepE, ofBits_shift _ (by omega)]
  by_cases h : pw (N + d) ≤ t
  · rw [if_pos (EReal.coe_le_coe_iff.2 h)]
    exact ⟨N + d, rfl, h, by rw [Nat.add_assoc, ← Nat.two_mul]; exact h1, by omega⟩
  · rw [if_neg fun h' => h (EReal.coe_le_coe_iff.1 h')]
    exact ⟨N, he, h0, not_le.1 h, by omega⟩

/-- Two, the field 128, is above every `t` searched for, so that the first step keeps zero. -/
theorem ebStep_first (t : ℝ) (h2 : t < 2) : ebStepE (t : EReal) 1073741824#32 0#32 = 0#32 := by
  have h128 : pw 128 = 2 := by norm_num [pw]
  have h := ofBits_shift 128 (by decide)
  rw [h128] at h
  rw [ebStepE]
  refine if_neg fun hc => ?_
  have h' : Ideal.ofBits .f32 1073741824#32 = ((2 : ℝ) : EReal) := h
  rw [h', EReal.coe_le_coe_iff] at hc
  exact absurd hc (not_le.2 h2)

/-- Seven steps from the field zero find the field of the greatest power of two that is at most `t`. -/
theorem ebSteps_spec (t : ℝ) (h0 : 0 ≤ t) (h2 : t < 2) (e c1 c2 c3 c4 c5 c6 c7 : BitVec 32) (he : e = BitVec.ofNat 32 (0 * 8388608))
    (h1 : c1 = BitVec.ofNat 32 (64 * 8388608)) (h2' : c2 = BitVec.ofNat 32 (32 * 8388608)) (h3 : c3 = BitVec.ofNat 32 (16 * 8388608))
    (h4 : c4 = BitVec.ofNat 32 (8 * 8388608)) (h5 : c5 = BitVec.ofNat 32 (4 * 8388608)) (h6 : c6 = BitVec.ofNat 32 (2 * 8388608))
    (h7 : c7 = BitVec.ofNat 32 (1 * 8388608)) :
    ∃ N, N ≤ 127 ∧ [c1, c2, c3, c4, c5, c6, c7].foldl (fun eb b => ebStepE t (eb + b) eb) e = BitVec.ofNat 32 (N * 8388608)
      ∧ pw N ≤ t ∧ t < pw (N + 1) := by
  have h128 : pw (0 + 2 * 64) = 2 := by norm_num [pw]
  have hp0 : pw 0 ≤ t := by simpa [pw] using h0
  obtain ⟨N1, e1, l1, u1, b1⟩ := ebStep_spec t 0 64 _ c1 he h1 (by decide) hp0 (h128 ▸ h2)
  obtain ⟨N2, e2, l2, u2, b2⟩ := ebStep_spec t N1 32 _ c2 e1 h2' b1 l1 u1
  obtain ⟨N3, e3, l3, u3, b3⟩ := ebStep_spec t N2 16 _ c3 e2 h3 b2 l2 u2
  obtain ⟨N4, e4, l4, u4, b4⟩ := ebStep_spec t N3 8 _ c4 e3 h4 b3 l3 u3
  obtain ⟨N5, e5, l5, u5, b5⟩ := ebStep_spec t N4 4 _ c5 e4 h5 b4 l4 u4
  obtain ⟨N6, e6, l6, u6, b6⟩ := ebStep_spec t N5 2 _ c6 e5 h6 b5 l5 u5
  obtain ⟨N7, e7, l7, u7, b7⟩ := ebStep_spec t N6 1 _ c7 e6 h7 b6 l6 u6
  exact ⟨N7, Nat.le_of_succ_le_succ b7, e7, l7, u7⟩

/-- The exponent search finds the field of the greatest power of two that is at most `t`. -/
theorem ebE_spec (t : ℝ) (h0 : 0 ≤ t) (h2 : t < 2) :
    ∃ N, N ≤ 127 ∧ ebE t = BitVec.ofNat 32 (N * 8388608) ∧ pw N ≤ t ∧ t < pw (N + 1) := by
  rw [ebE, ebStep_first t h2]
  exact ebSteps_spec t h0 h2 _ _ _ _ _ _ _ _ rfl rfl rfl rfl rfl rfl rfl rfl

/-- What the scale is taken from, on one entry. -/
def qargE (a : EReal) : EReal := if a * ((1 / 448 : ℝ) : EReal) = 0 then ((1 / 2 : ℝ) : EReal) else a * ((1 / 448 : ℝ) : EReal)

/-- One entry quantised against `a` and decoded again. -/
def quantE (ex a : EReal) : EReal :=
  min ((448 : ℝ) : EReal) (max ((-448 : ℝ) : EReal) (ex * (a * Ideal.ofBits .f32 (2122317824#32 - ebE (qargE a)))))
    * Ideal.ofBits .f32 (ebE (qargE a) + 8388608#32)

/-- Quantising and decoding an entry of the unit interval against a real of the unit interval loses nothing. -/
theorem quantE_real (e a : ℝ) (he : 0 ≤ e) (he1 : e ≤ 1) (ha : 0 ≤ a) (ha1 : a ≤ 1) : quantE e a = ((e * a : ℝ) : EReal) := by
  obtain ⟨t, ht, ht0, ht2, hat⟩ : ∃ t : ℝ, qargE a = t ∧ 0 ≤ t ∧ t < 2 ∧ a ≤ 448 * t := by
    rw [qargE, ← EReal.coe_mul]
    by_cases h : a * (1 / 448) = 0
    · rw [if_pos (by rw [h]; rfl)]
      exact ⟨1 / 2, rfl, by norm_num, by norm_num, by linarith⟩
    · rw [if_neg (by exact_mod_cast h)]
      exact ⟨_, rfl, by positivity, by linarith, by linarith⟩
  obtain ⟨N, hN, hb, hl, hu⟩ := ebE_spec t ht0 ht2
  rw [quantE, ht, hb]
  have hd : 2122317824#32 - BitVec.ofNat 32 (N * 8388608) = BitVec.ofNat 32 ((253 - N) * 8388608) := by
    apply BitVec.eq_of_toNat_eq
    rw [BitVec.toNat_sub, BitVec.toNat_ofNat, BitVec.toNat_ofNat, BitVec.toNat_ofNat]
    omega
  have hu' : BitVec.ofNat 32 (N * 8388608) + 8388608#32 = BitVec.ofNat 32 ((N + 1) * 8388608) := by
    rw [show (8388608#32) = BitVec.ofNat 32 (1 * 8388608) from congrArg (BitVec.ofNat 32) (by norm_num), ← BitVec.ofNat_add, ← Nat.add_mul]
  rw [hd, hu', ofBits_shift _ (by omega), ofBits_shift _ (by omega)]
  have hprod : pw (253 - N) * pw (N + 1) = 1 := by
    rw [pw, pw, if_neg (by omega), if_neg (by omega), ← zpow_add₀ (by norm_num : (2 : ℝ) ≠ 0)]
    rw [Nat.cast_sub (by omega)]
    push_cast
    rw [show (253 - (N : ℤ) - 127 + (N + 1 - 127)) = 0 by ring, zpow_zero]
  have hd0 : 0 < pw (253 - N) := by rw [pw, if_neg (by omega)]; positivity
  have hmul : a * pw (253 - N) ≤ 448 := by nlinarith
  have hx0 : 0 ≤ e * (a * pw (253 - N)) := by positivity
  have hx1 : e * (a * pw (253 - N)) ≤ 448 := by
    have : 0 ≤ a * pw (253 - N) := by positivity
    nlinarith
  rw [← EReal.coe_mul, ← EReal.coe_mul, max_eq_right (EReal.coe_le_coe_iff.2 (by linarith)), min_eq_right (EReal.coe_le_coe_iff.2 hx1), ← EReal.coe_mul]
  congr 1
  calc e * (a * pw (253 - N)) * pw (N + 1) = e * a * (pw (253 - N) * pw (N + 1)) := by ring
    _ = e * a := by rw [hprod, mul_one]

/-- Against zero every entry quantises to zero. -/
theorem quantE_zero (e : EReal) : quantE e 0 = 0 := by
  have h := quantE_real 0 0 le_rfl zero_le_one le_rfl zero_le_one
  have e0 : quantE e 0 = quantE ((0 : ℝ) : EReal) ((0 : ℝ) : EReal) := by
    rw [quantE, quantE]; simp
  rw [e0, h]; simp

/-- A quantised and decoded weight is the exponential against the lane's maximum times one over the lane's sum. -/
theorem quantE_weight {s g m D : EReal} (h : s ≤ g) (h' : g ≤ m) (hD : ∀ r : ℝ, m = r → ∃ d : ℝ, D = d ∧ 1 ≤ d) :
    quantE (E s g) (E g m * Ideal.div 1 D) = E s m * Ideal.div 1 D := by
  have hz : E g m = 0 → quantE (E s g) (E g m * Ideal.div 1 D) = E s m * Ideal.div 1 D := fun hz => by
    rw [← E_mul h h', hz, zero_mul, quantE_zero, zero_mul, zero_mul]
  induction m using EReal.rec with
  | bot => exact hz (by rw [le_bot_iff.1 h', E_bot])
  | top => exact hz (E_top g)
  | coe m =>
    obtain ⟨d, rfl, hd⟩ := hD m rfl
    have hdiv : Ideal.div 1 (d : EReal) = ((d⁻¹ : ℝ) : EReal) := by
      rw [Ideal.div, if_neg (by exact_mod_cast (by linarith : d ≠ 0)), one_mul]; rfl
    induction g using EReal.rec with
    | bot => exact hz (E_bot _)
    | top => exact absurd h' (by simp)
    | coe g =>
      rw [← E_mul h h']
      obtain ⟨x, hx, x0, x1⟩ := E_unit h'
      obtain ⟨y, hy, y0, y1⟩ := E_unit h
      have hd1 : d⁻¹ ≤ 1 := inv_le_one_of_one_le₀ hd
      have hd0 : 0 ≤ d⁻¹ := by positivity
      rw [hx, hy, hdiv, ← EReal.coe_mul, quantE_real y _ y0 y1 (by positivity) (by nlinarith), ← EReal.coe_mul, ← EReal.coe_mul]
      congr 1; ring

end Cert.Attn
-- ==== Proof.Read.lean ====
/- The vectors of the kernel's body read at an index: what one lane of one tile computes. -/
module

public import proofs.«01_k».proof.Proof.Tile
public import proofs.«01_k».proof.Proof.Core
public import Idealize.ShloMosaic.Lib.MatmulPlain
public import Idealize.ShloMosaic.Lib.Pointwise.IndexBridge

@[expose] public section

noncomputable section

namespace Cert.Attn

open Idealize.ShloMosaic Idealize.SL.Sem Cert.KernelIdeal

/-! ## Reshapes and spreads at variable sizes -/

section Shapes

variable {α : Type} {H L n G : ℕ}

/-- Rows split into sixteenths of eight. -/
theorem split_at (x : (⟨2, ![16 * H, L]⟩ : Shape).Idx → α) (h : (⟨2, ![16 * H, L]⟩ : Shape).ShapeCasts ⟨3, ![2 * H, 8, L]⟩)
    (j : Fin (2 * H)) (b : Fin 8) (l : Fin L) :
    shapeCast ⟨3, ![2 * H, 8, L]⟩ x h (ix3 j b l) = x (ix2 ⟨8 * j.val + b.val, by omega⟩ l) :=
  congrArg x (Shape.reshapeEquiv_eq_of_vals h _ _ _ _ (rowMajor_val2 _ L rfl) (rowMajor_val3 _ (8 * L) L rfl rfl)
    (by show (8 * j.val + b.val) * L + l.val = j.val * (8 * L) + b.val * L + l.val; ring))

/-- Eighths joined into rows. -/
theorem join_at (x : (⟨3, ![2 * H, 8, L]⟩ : Shape).Idx → α) (h : (⟨3, ![2 * H, 8, L]⟩ : Shape).ShapeCasts ⟨2, ![16 * H, L]⟩)
    (r : Fin (16 * H)) (l : Fin L) :
    shapeCast ⟨2, ![16 * H, L]⟩ x h (ix2 r l) = x (ix3 ⟨r.val / 8, by omega⟩ ⟨r.val % 8, Nat.mod_lt _ (by decide)⟩ l) :=
  congrArg x (Shape.reshapeEquiv_eq_of_vals h _ _ _ _ (rowMajor_val3 _ (8 * L) L rfl rfl) (rowMajor_val2 _ L rfl)
    (by show r.val / 8 * (8 * L) + r.val % 8 * L + l.val = r.val * L + l.val
        conv_rhs => rw [← Nat.div_add_mod r.val 8]
        ring))

/-- Rows split into sixteens. -/
theorem split16_at (x : (⟨2, ![16 * H, L]⟩ : Shape).Idx → α) (h : (⟨2, ![16 * H, L]⟩ : Shape).ShapeCasts ⟨3, ![H, 16, L]⟩)
    (j : Fin H) (b : Fin 16) (l : Fin L) :
    shapeCast ⟨3, ![H, 16, L]⟩ x h (ix3 j b l) = x (ix2 ⟨16 * j.val + b.val, by omega⟩ l) :=
  congrArg x (Shape.reshapeEquiv_eq_of_vals h _ _ _ _ (rowMajor_val2 _ L rfl) (rowMajor_val3 _ (16 * L) L rfl rfl)
    (by show (16 * j.val + b.val) * L + l.val = j.val * (16 * L) + b.val * L + l.val; ring))

/-- Sixteens joined into rows. -/
theorem join16_at (x : (⟨3, ![H, 16, L]⟩ : Shape).Idx → α) (h : (⟨3, ![H, 16, L]⟩ : Shape).ShapeCasts ⟨2, ![16 * H, L]⟩)
    (r : Fin (16 * H)) (l : Fin L) :
    shapeCast ⟨2, ![16 * H, L]⟩ x h (ix2 r l) = x (ix3 ⟨r.val / 16, by omega⟩ ⟨r.val % 16, Nat.mod_lt _ (by decide)⟩ l) :=
  congrArg x (Shape.reshapeEquiv_eq_of_vals h _ _ _ _ (rowMajor_val3 _ (16 * L) L rfl rfl) (rowMajor_val2 _ L rfl)
    (by show r.val / 16 * (16 * L) + r.val % 16 * L + l.val = r.val * L + l.val
        conv_rhs => rw [← Nat.div_add_mod r.val 16]
        ring))

/-- A leading axis of one put in front. -/
theorem lead_at (x : (⟨2, ![n, L]⟩ : Shape).Idx → α) (h : (⟨2, ![n, L]⟩ : Shape).ShapeCasts ⟨3, ![1, n, L]⟩)
    (z : Fin 1) (b : Fin n) (l : Fin L) : shapeCast ⟨3, ![1, n, L]⟩ x h (ix3 z b l) = x (ix2 b l) :=
  congrArg x (Shape.reshapeEquiv_eq_of_vals h _ _ _ _ (rowMajor_val2 _ L rfl) (rowMajor_val3 _ (n * L) L rfl rfl)
    (by show b.val * L + l.val = z.val * (n * L) + b.val * L + l.val; rw [Fin.val_eq_zero z]; ring))

/-- A leading axis of one dropped. -/
theorem drop_at (x : (⟨3, ![1, n, L]⟩ : Shape).Idx → α) (h : (⟨3, ![1, n, L]⟩ : Shape).ShapeCasts ⟨2, ![n, L]⟩)
    (b : Fin n) (l : Fin L) : shapeCast ⟨2, ![n, L]⟩ x h (ix2 b l) = x (ix3 0 b l) :=
  congrArg x (Shape.reshapeEquiv_eq_of_vals h _ _ _ _ (rowMajor_val3 _ (n * L) L rfl rfl) (rowMajor_val2 _ L rfl)
    (by show 0 * (n * L) + b.val * L + l.val = b.val * L + l.val; ring))

/-- A vector put in front of an axis of `G` reads as itself. -/
theorem spread_at (x : (⟨3, ![1, n, L]⟩ : Shape).Idx → α) (h : (⟨3, ![1, n, L]⟩ : Shape).Broadcasts ⟨3, ![G, n, L]⟩)
    (j : Fin G) (b : Fin n) (l : Fin L) : broadcastTo ⟨3, ![G, n, L]⟩ x h (ix3 j b l) = x (ix3 0 b l) := by
  unfold broadcastTo
  congr 1
  funext a
  apply Fin.ext
  match a with
  | ⟨0, _⟩ => simp [ix3]
  | ⟨1, _⟩ =>
    split_ifs with hn
    · have hn' : n = 1 := hn
      have := b.isLt
      show 0 = b.val
      omega
    · rfl
  | ⟨2, _⟩ =>
    split_ifs with hn
    · have hn' : L = 1 := hn
      have := l.isLt
      show 0 = l.val
      omega
    · rfl

end Shapes

/-! ## Scalars -/

/-- The kernel's factor of the exponents. -/
theorem named_log2e : (Named.named (F := Ideal) κ "score_scale_log2e" 0x3E0293EE#32 : Ideal .f32) = (C2 : EReal) := rfl
/-- The kernel's mask value. -/
theorem named_minus_inf : (Named.named (F := Ideal) κ "minus_inf" 0xFF61B1E6#32 : Ideal .f32) = (⊥ : EReal) := rfl
/-- The kernel's factor of the scores. -/
theorem named_scale : (Named.named (F := Ideal) κ "score_scale" 0x3DB504F3#32 : Ideal .f32) = (((Real.sqrt 128)⁻¹ : ℝ) : EReal) := rfl
/-- The kernel's reciprocal of the greatest fp8 value. -/
theorem named_inv_max : (Named.named (F := Ideal) κ "inv_fp8_max" 0x3B124925#32 : Ideal .f32) = ((1 / 448 : ℝ) : EReal) := rfl

/-- The pattern of minus infinity. -/
theorem bits_ninf : Ideal.ofBits .f32 0xFF800000#32 = ⊥ := by
  simp [Ideal.ofBits, Ideal.ieee]
/-- The pattern of one half. -/
theorem bits_half : Ideal.ofBits .f32 0x3F000000#32 = ((1 / 2 : ℝ) : EReal) := by
  simp [Ideal.ofBits, Ideal.ieee]
  rw [← EReal.coe_mul]
  norm_num
/-- The pattern of the greatest fp8 value. -/
theorem bits_max : Ideal.ofBits .f32 0x43E00000#32 = ((448 : ℝ) : EReal) := by
  simp [Ideal.ofBits, Ideal.ieee]
  rw [← EReal.coe_mul]
  norm_num
/-- The pattern of the least fp8 value. -/
theorem bits_min : Ideal.ofBits .f32 0xC3E00000#32 = ((-448 : ℝ) : EReal) := by
  simp [Ideal.ofBits, Ideal.ieee]
  rw [← EReal.coe_mul]
  norm_num

/-! ## Rotations and reductions -/

variable {L Kc : ℕ}

/-- A rotation of the sublanes at an index. -/
theorem rotate_at (r : BitVec 32) (X : FVec Ideal ⟨2, ![8, L]⟩ .f32) (h) (b : Fin 8) (l : Fin L) :
    dynamicRotate 0 r none X h (ix2 b l) = X (ix2 (rot r b) l) := by
  show X _ = X _
  congr 1
  funext a
  match a with
  | ⟨0, _⟩ => rfl
  | ⟨1, _⟩ => rfl

/-- Rotated maxima at an index. -/
theorem rolled_max_at (rs : List (BitVec 32)) (X : FVec Ideal ⟨2, ![8, L]⟩ .f32) (b : Fin 8) (l : Fin L) :
    rolled maximumf rs X (ix2 b l) = rolledE max rs (fun b => X (ix2 b l)) b := by
  induction rs generalizing X with
  | nil => rfl
  | cons r rs ih =>
    refine (ih _).trans ?_
    show rolledE max rs _ b = rolledE max rs _ b
    congr 1
    funext c
    exact congrArg (max (X (ix2 c l))) (rotate_at r X _ c l)

/-- Rotated sums at an index. -/
theorem rolled_add_at (rs : List (BitVec 32)) (X : FVec Ideal ⟨2, ![8, L]⟩ .f32) (b : Fin 8) (l : Fin L) :
    rolled addf rs X (ix2 b l) = rolledE (· + ·) rs (fun b => X (ix2 b l)) b := by
  induction rs generalizing X with
  | nil => rfl
  | cons r rs ih =>
    refine (ih _).trans ?_
    show rolledE (· + ·) rs _ b = rolledE (· + ·) rs _ b
    congr 1
    funext c
    exact congrArg (X (ix2 c l) + ·) (rotate_at r X _ c l)

/-- A maximum over the leading axis at an index. -/
theorem max_at {G n : ℕ} (x : FVec Ideal ⟨3, ![G, n, L]⟩ .f32) (h : (⟨3, ![G, n, L]⟩ : Shape).Reduces [0] ⟨2, ![n, L]⟩) (h' h'')
    (b : Fin n) (l : Fin L) :
    multiReduction .maximumf [0] ⟨2, ![n, L]⟩ x 0xFF800000#32 h h' h'' (ix2 b l) = Finset.univ.fold max ⊥ fun j => x (ix3 j b l) := by
  rw [multiReduction_maximumf_eq_reduceFold]
  have e : (FloatOps.maximumf (F := Ideal) (φ := .f32)) = (max : EReal → EReal → EReal) := rfl
  have e' : FloatOps.ofBits (F := Ideal) .f32 0xFF800000#32 = (⊥ : EReal) := bits_ninf
  show reduceFold h (max : EReal → EReal → EReal) (Ideal.ofBits .f32 0xFF800000#32) x (ix2 b l) = _
  rw [bits_ninf, reduceFold_eq_fold]
  exact h.fold_fiber_r3_a0 (ix2 b l) max ⊥ x

/-- A sum over the leading axis at an index. -/
theorem sum_at {G n : ℕ} (x : FVec Ideal ⟨3, ![G, n, L]⟩ .f32) (h : (⟨3, ![G, n, L]⟩ : Shape).Reduces [0] ⟨2, ![n, L]⟩) (h' h'')
    (b : Fin n) (l : Fin L) :
    multiReduction .add [0] ⟨2, ![n, L]⟩ x 0x00000000#32 h h' h'' (ix2 b l) = ∑ j, x (ix3 j b l) :=
  Ideal.reduceAdd_r3_a0 h x (ix2 b l)

/-- A product of two matrices at an index. -/
theorem mm_at {M K N : ℕ} {φ₁ φ₂ : FTy} (x : FVec Ideal ⟨2, ![M, K]⟩ φ₁) (y : FVec Ideal ⟨2, ![K, N]⟩ φ₂) (r : Fin M) (c : Fin N) :
    matmul (DotDims.plain M K N) none x y (constant _ .f32 0x00000000#32) (ix2 r c) = ∑ k : Fin K, x (ix2 r k) * y (ix2 k c) := by
  simp only [ix2_eq_valueIdx]
  refine (Ideal.matmul_plain_apply none x y _ r c).trans ?_
  show Ideal.ofBits .f32 0x00000000#32 + _ = _
  rw [Ideal.ofBits_zero_f32, zero_add]

/-- A product with a transposed matrix at an index. -/
theorem mmT_at {M K N : ℕ} {φ₁ φ₂ : FTy} (x : FVec Ideal ⟨2, ![M, K]⟩ φ₁) (y : FVec Ideal ⟨2, ![N, K]⟩ φ₂) (r : Fin M) (c : Fin N) :
    matmul (DotDims.transposedRhs M K N) none x y (constant _ .f32 0x00000000#32) (ix2 r c) = ∑ k : Fin K, x (ix2 r k) * y (ix2 c k) := by
  simp only [ix2_eq_valueIdx]
  refine (Ideal.matmul_transposedRhs_apply none x y _ r c).trans ?_
  show Ideal.ofBits .f32 0x00000000#32 + _ = _
  rw [Ideal.ofBits_zero_f32, zero_add]

/-! ## One lane of a tile -/

variable (q : FVec Ideal ⟨2, ![Kc, L]⟩ .bf16) (q0 : ℕ) (x : Grp Ideal Kc) (xs : List (Grp Ideal Kc))

/-- One lane's scores in one group. -/
def lg (l : Fin L) (x : Grp Ideal Kc) : LG := ⟨2 * x.g.sz.H, x.g.sz.rolls, fun j b => scores q q0 x (ix3 j b l)⟩

/-- The group's maxima at an index. -/
theorem gmax_at (b : Fin 8) (l : Fin L) : gmax q q0 x (ix2 b l) = (lg q q0 l x).mx b := by
  rw [gmax, rolled_max_at, LG.mx]
  congr 1
  funext c
  exact max_at _ _ _ _ _ _

/-- The group's exponentials at an index. -/
theorem gexp_at (j : Fin (2 * x.g.sz.H)) (b : Fin 8) (l : Fin L) :
    gexp q q0 x (ix3 j b l) = E ((lg q q0 l x).S j b) ((lg q q0 l x).mx b) := by
  show Ideal.exp2 ((scores q q0 x (ix3 j b l) - broadcastTo _ (shapeCast ⟨3, ![1, 8, L]⟩ (gmax q q0 x) _) _ (ix3 j b l)) * (C2 : EReal)) = _
  rw [spread_at, lead_at, gmax_at]
  rfl

/-- The group's sums at an index. -/
theorem gsum_at (b : Fin 8) (l : Fin L) : gsum q q0 x (ix2 b l) = (lg q q0 l x).sm b := by
  refine (sum_at _ _ _ _ _ _).trans ?_
  exact Finset.sum_congr rfl fun j _ => gexp_at q q0 x j b l

/-- The lane's maximum at an index. -/
theorem tmax_at (b : Fin 8) (l : Fin L) : tmax q q0 x xs (ix2 b l) = tmx (lg q q0 l x) (xs.map (lg q q0 l)) b := by
  rw [tmax, rolled_max_at, tmx]
  congr 1
  have h : ∀ (ys : List (Grp Ideal Kc)) (m : FVec Ideal ⟨2, ![8, L]⟩ .f32) (m' : Fin 8 → EReal), (∀ b, m (ix2 b l) = m' b) →
      (fun b => ys.foldl (fun m y => maximumf m (gmax q q0 y)) m (ix2 b l))
        = (ys.map (lg q q0 l)).foldl (fun m y b => max (m b) (y.mx b)) m' := by
    intro ys
    induction ys with
    | nil => intro m m' h; exact funext h
    | cons y ys ih =>
      intro m m' h
      refine ih _ _ fun b => ?_
      show max (m (ix2 b l)) (gmax q q0 y (ix2 b l)) = _
      rw [h, gmax_at]
  exact h xs _ _ fun b => gmax_at q q0 x b l

/-- A group's factor at an index. -/
theorem alpha_at (y : Grp Ideal Kc) (b : Fin 8) (l : Fin L) :
    alpha q q0 x xs y (ix2 b l) = E ((lg q q0 l y).mx b) (tmx (lg q q0 l x) (xs.map (lg q q0 l)) b) := by
  rw [← gmax_at, ← tmax_at]
  rfl

/-- The lane's sum of exponentials at an index. -/
theorem den_at (b : Fin 8) (l : Fin L) : den q q0 x xs (ix2 b l) = dn (lg q q0 l x) (xs.map (lg q q0 l)) b := by
  rw [den, rolled_add_at, dn]
  congr 1
  have h : ∀ (ys : List (Grp Ideal Kc)) (m : FVec Ideal ⟨2, ![8, L]⟩ .f32) (m' : Fin 8 → EReal), (∀ b, m (ix2 b l) = m' b) →
      (fun b => ys.foldl (fun m y => addf m (mulf (alpha q q0 x xs y) (gsum q q0 y))) m (ix2 b l))
        = (ys.map (lg q q0 l)).foldl (fun m y b => m b + E (y.mx b) (tmx (lg q q0 l x) (xs.map (lg q q0 l)) b) * y.sm b) m' := by
    intro ys
    induction ys with
    | nil => intro m m' h; exact funext h
    | cons y ys ih =>
      intro m m' h
      refine ih _ _ fun b => ?_
      show m (ix2 b l) + alpha q q0 x xs y (ix2 b l) * gsum q q0 y (ix2 b l) = _
      rw [h, alpha_at, gsum_at]
  exact h xs _ _ fun b => by
    show alpha q q0 x xs x (ix2 b l) * gsum q q0 x (ix2 b l) = _
    rw [alpha_at, gsum_at]

/-- A select on equality. -/
theorem select_eq {α : Type} (x y : EReal) (a b : α) : Scalar.select (Ideal.cmp .oeq x y) a b = if x = y then a else b := by
  unfold Scalar.select Ideal.cmp
  by_cases h : x = y <;> simp [h]

/-- A select on an order. -/
theorem select_ge {α : Type} (x y : EReal) (a b : α) : Scalar.select (Ideal.cmp .oge x y) a b = if y ≤ x then a else b := by
  unfold Scalar.select Ideal.cmp
  by_cases h : y ≤ x <;> simp [h]

/-- A step of the exponent search at an index. -/
theorem ebStep_at (t : FVec Ideal ⟨2, ![8, L]⟩ .f32) (c eb : IVec ⟨2, ![8, L]⟩ 32) (i) : ebStep t c eb i = ebStepE (t i) (c i) (eb i) :=
  select_ge _ _ _ _

/-- The steps of the exponent search at an index. -/
theorem ebSteps_at (t : FVec Ideal ⟨2, ![8, L]⟩ .f32) (bs : List (BitVec 32)) (X : IVec ⟨2, ![8, L]⟩ 32) (i) :
    bs.foldl (fun eb b => ebStep t (addi eb (broadcast _ b)) eb) X i = bs.foldl (fun eb b => ebStepE (t i) (eb + b) eb) (X i) := by
  induction bs generalizing X with
  | nil => rfl
  | cons b bs ih =>
    refine (ih _).trans ?_
    rw [List.foldl_cons]
    exact congrArg (fun e => List.foldl _ e bs) (ebStep_at t _ X i)

/-- The exponent search at an index. -/
theorem ebits_at (t : FVec Ideal ⟨2, ![8, L]⟩ .f32) (i) : ebits t i = ebE (t i) := by
  unfold ebits ebE
  exact (ebSteps_at t _ _ i).trans (congrArg (fun e => List.foldl _ e _) (ebStep_at t _ _ i))

/-- What the scale is taken from at an index. -/
theorem qarg_at (a : FVec Ideal ⟨2, ![8, L]⟩ .f32) (i) : qarg a i = qargE (a i) := by
  refine (select_eq _ _ _ _).trans ?_
  show (if a i * ((1 / 448 : ℝ) : EReal) = Ideal.ofBits .f32 0x00000000#32 then Ideal.ofBits .f32 0x3F000000#32 else a i * ((1 / 448 : ℝ) : EReal)) = _
  rw [Ideal.ofBits_zero_f32, bits_half, qargE]

/-- Eight rows twice over at an index. -/
theorem twice_at (x : FVec Ideal ⟨2, ![8, L]⟩ .f32) (h) (r : Fin 16) (l : Fin L) :
    concatenate ⟨2, ![16, L]⟩ 0 [⟨⟨2, ![8, L]⟩, x⟩, ⟨⟨2, ![8, L]⟩, x⟩] h (ix2 r l) = x (ix2 ⟨r.val % 8, Nat.mod_lt _ (by decide)⟩ l) := by
  by_cases hr : r.val < 8
  · refine concatenate_pair_apply_left 0 x x h _ rfl _ fun b => ?_
    match b with
    | ⟨0, _⟩ => exact Nat.mod_eq_of_lt hr
    | ⟨1, _⟩ => rfl
  · refine concatenate_pair_apply_right 0 x x h _ rfl rfl _ (fun b hb => ?_) ?_
    · match b with
      | ⟨0, _⟩ => exact absurd rfl hb
      | ⟨1, _⟩ => rfl
    · show r.val % 8 + 8 = r.val
      omega

/-- A splat at an index. -/
theorem broadcast_at {s : Shape} {α : Type} (c : α) (i : s.Idx) : broadcast s c i = c := rfl
/-- A sum of words at an index. -/
theorem addi_at {s : Shape} (x y : IVec s 32) (i : s.Idx) : addi x y i = x i + y i := rfl
/-- A difference of words at an index. -/
theorem subi_at {s : Shape} (x y : IVec s 32) (i : s.Idx) : subi x y i = x i - y i := rfl
/-- Words read as floats at an index. -/
theorem bitcast_at {s : Shape} (x : IVec s 32) (i : s.Idx) : bitcastToFloat (F := Ideal) .f32 x i = Ideal.ofBits .f32 (x i) := rfl
/-- A lesser of two at an index. -/
theorem minimumf_at {s : Shape} {φ : FTy} (x y : FVec Ideal s φ) (i : s.Idx) : minimumf x y i = min (x i : EReal) (y i) := rfl
/-- A greater of two at an index. -/
theorem maximumf_at {s : Shape} {φ : FTy} (x y : FVec Ideal s φ) (i : s.Idx) : maximumf x y i = max (x i : EReal) (y i) := rfl
/-- A product at an index. -/
theorem mulf_at {s : Shape} {φ : FTy} (x y : FVec Ideal s φ) (i : s.Idx) : mulf x y i = (x i * y i : EReal) := rfl
/-- A widening at an index. -/
theorem extf_at {s : Shape} {φ ψ : FTy} (x : FVec Ideal s φ) (h) (i : s.Idx) : extf ψ x h i = (x i : EReal) := rfl
/-- A narrowing at an index. -/
theorem truncf_at {s : Shape} {φ ψ : FTy} (x : FVec Ideal s φ) (h) (i : s.Idx) : truncf ψ x h i = (x i : EReal) := rfl

/-- Quantised and decoded entries at an index. -/
theorem quantised_at {H : ℕ} (ex : FVec Ideal ⟨3, ![2 * H, 8, L]⟩ .f32) (a : FVec Ideal ⟨2, ![8, L]⟩ .f32) (r : Fin (16 * H)) (l : Fin L) :
    quantised ex a (ix2 r l) = quantE (ex (ix3 ⟨r.val / 8, by omega⟩ ⟨r.val % 8, Nat.mod_lt _ (by decide)⟩ l))
      (a (ix2 ⟨r.val % 8, Nat.mod_lt _ (by decide)⟩ l)) := by
  have hm : r.val % 16 % 8 = r.val % 8 := by omega
  have hr : 16 * (r.val / 16) + r.val % 16 = r.val := by omega
  unfold quantised
  rw [join16_at]
  rw [mulf_at, split16_at, extf_at, truncf_at, join_at, spread_at, lead_at, truncf_at, twice_at]
  simp only [hr, hm]
  have hs : ∀ (j : Fin (2 * H)) (b : Fin 8), broadcastTo ⟨3, ![2 * H, 8, L]⟩ (shapeCast ⟨3, ![1, 8, L]⟩
      (mulf a (bitcastToFloat .f32 (subi (broadcast _ 2122317824#32) (ebits (qarg a))))) (reshape_lead 8 L)) (spread_ok _ 8 L) (ix3 j b l)
      = a (ix2 b l) * Ideal.ofBits .f32 (2122317824#32 - ebE (qargE (a (ix2 b l)))) := fun j b => by
    rw [spread_at, lead_at, mulf_at, bitcast_at, subi_at, broadcast_at, ebits_at, qarg_at]
  have hu : ∀ b : Fin 8, bitcastToFloat (F := Ideal) .f32 (addi (ebits (qarg a)) (broadcast _ 8388608#32)) (ix2 b l)
      = Ideal.ofBits .f32 (ebE (qargE (a (ix2 b l))) + 8388608#32) := fun b => by
    rw [bitcast_at, addi_at, broadcast_at, ebits_at, qarg_at]
  rw [hu, minimumf_at, maximumf_at, broadcast_at, broadcast_at, mulf_at, hs, quantE, ← bits_max, ← bits_min]
  congr 1

/-- A group's weights at an index. -/
theorem weights_at (y : Grp Ideal Kc) (r : Fin (16 * y.g.sz.H)) (l : Fin L) :
    weights q q0 x xs y (ix2 r l)
      = quantE (E ((lg q q0 l y).S ⟨r.val / 8, by show _ < 2 * _; omega⟩ ⟨r.val % 8, Nat.mod_lt _ (by decide)⟩)
            ((lg q q0 l y).mx ⟨r.val % 8, Nat.mod_lt _ (by decide)⟩))
          (E ((lg q q0 l y).mx ⟨r.val % 8, Nat.mod_lt _ (by decide)⟩)
              (tmx (lg q q0 l x) (xs.map (lg q q0 l)) ⟨r.val % 8, Nat.mod_lt _ (by decide)⟩)
            * Ideal.div 1 (dn (lg q q0 l x) (xs.map (lg q q0 l)) ⟨r.val % 8, Nat.mod_lt _ (by decide)⟩)) := by
  refine (quantised_at _ _ _ _).trans ?_
  rw [gexp_at]
  congr 1
  show alpha q q0 x xs y _ * Ideal.div (Ideal.ofBits .f32 0x3F800000#32) (den q q0 x xs _) = _
  rw [alpha_at, den_at, Ideal.ofBits_one_f32]

/-- A group's part of the output at an index. -/
theorem gout_at (y : Grp Ideal Kc) (d : Fin 128) (l : Fin L) :
    gout q q0 x xs y (ix2 d l) = ∑ r, y.v (ix3 0 d r) * weights q q0 x xs y (ix2 r l) := by
  refine (mm_at _ _ _ _).trans (Finset.sum_congr rfl fun r _ => ?_)
  exact congrArg (· * weights q q0 x xs y (ix2 r l)) (drop_at _ _ _ _)

/-- The tile's output at an index. -/
theorem tout_at (d : Fin 128) (l : Fin L) :
    tout q q0 x xs (ix2 d l) = ((x :: xs).map fun y => gout q q0 x xs y (ix2 d l)).sum := by
  have h : ∀ (ys : List (Grp Ideal Kc)) (m : FVec Ideal ⟨2, ![128, L]⟩ .f32),
      ys.foldl (fun m y => addf m (gout q q0 x xs y)) m (ix2 d l) = m (ix2 d l) + (ys.map fun y => gout q q0 x xs y (ix2 d l)).sum := by
    intro ys
    induction ys with
    | nil => intro m; simp
    | cons y ys ih =>
      intro m
      refine (ih _).trans ?_
      rw [List.map_cons, List.sum_cons, ← add_assoc]
      rfl
  exact h xs _

/-- A group's part of the output from the second key-value head at an index. -/
theorem gout'_at (q : FVec Ideal ⟨2, ![Kc, 256]⟩ .bf16) (y : Grp Ideal Kc) (d : Fin 128) (l : Fin 128) :
    gout' q q0 x xs y (ix2 d l) = ∑ r, y.v' (ix3 0 d r) * weights q q0 x xs y (ix2 r ⟨128 + l.val, by omega⟩) := by
  refine (mm_at _ _ _ _).trans (Finset.sum_congr rfl fun r _ => ?_)
  refine congrArg₂ (fun u w : EReal => u * w) (drop_at _ _ _ _) ?_
  refine congrArg (weights q q0 x xs y) ?_
  funext a
  apply Fin.ext
  match a with
  | ⟨0, _⟩ => exact Nat.zero_add _
  | ⟨1, _⟩ => rfl

/-- The tile's output from the second key-value head at an index. -/
theorem tout'_at (q : FVec Ideal ⟨2, ![Kc, 256]⟩ .bf16) (d : Fin 128) (l : Fin 128) :
    tout' q q0 x xs (ix2 d l) = ((x :: xs).map fun y => gout' q q0 x xs y (ix2 d l)).sum := by
  have h : ∀ (ys : List (Grp Ideal Kc)) (m : FVec Ideal ⟨2, ![128, 128]⟩ .f32),
      ys.foldl (fun m y => addf m (gout' q q0 x xs y)) m (ix2 d l) = m (ix2 d l) + (ys.map fun y => gout' q q0 x xs y (ix2 d l)).sum := by
    intro ys
    induction ys with
    | nil => intro m; simp
    | cons y ys ih =>
      intro m
      refine (ih _).trans ?_
      rw [List.map_cons, List.sum_cons, ← add_assoc]
      rfl
  exact h xs _

end Cert.Attn
-- ==== Proof.Lane.lean ====
/- One lane of a tile as a softmax over the keys: its groups' rows are the keys up to the end of its query tile. -/
module

public import proofs.«01_k».proof.Proof.Read

@[expose] public section

noncomputable section

namespace Cert.Attn

open Idealize.ShloMosaic Idealize.SL.Sem Cert.KernelIdeal

/-! ## The softmax of 640 scores -/

/-- The greatest of the scores. -/
def top (sc : ℕ → EReal) : EReal := (Finset.range 640).sup sc

/-- The sum of their exponentials. -/
def total (sc : ℕ → EReal) : EReal := ∑ k ∈ Finset.range 640, E (sc k) (top sc)

/-- The weight of a key. -/
def weight (sc : ℕ → EReal) (k : ℕ) : EReal := E (sc k) (top sc) * Ideal.div 1 (total sc)

/-- The weighted sum of the values. -/
def mixed (sc V : ℕ → EReal) : EReal := ∑ k ∈ Finset.range 640, V k * weight sc k

/-- The logarithm of the sum of exponentials, less that of the number of keys seen. -/
def lse (sc : ℕ → EReal) (p : ℕ) : EReal :=
  top sc * (((Real.sqrt 128)⁻¹ : ℝ) : EReal) + Ideal.log (total sc) - Ideal.log (((p : ℝ) + 1 : ℝ) : EReal)

/-- With a real maximum the sum is a real that is at least one. -/
theorem total_real (sc : ℕ → EReal) (m : ℝ) (h : top sc = m) : ∃ d : ℝ, total sc = d ∧ 1 ≤ d := by
  have hle : ∀ k ∈ Finset.range 640, sc k ≤ m := fun k hk => h ▸ Finset.le_sup hk
  obtain ⟨k0, hk0, he⟩ := Finset.exists_mem_eq_sup (Finset.range 640) ⟨0, by simp⟩ sc
  have hsum : ∀ s ⊆ Finset.range 640, ∃ d : ℝ, ∑ k ∈ s, E (sc k) m = d ∧ 0 ≤ d := by
    intro s
    induction s using Finset.induction_on with
    | empty => exact fun _ => ⟨0, by simp, le_rfl⟩
    | insert i s hi ih =>
      intro hs
      obtain ⟨d, hd, hd0⟩ := ih fun x hx => hs (Finset.mem_insert_of_mem hx)
      obtain ⟨e, he, he0, _⟩ := E_unit (hle i (hs (Finset.mem_insert_self i s)))
      exact ⟨e + d, by rw [Finset.sum_insert hi, hd, he, EReal.coe_add], by linarith⟩
  obtain ⟨d, hd, hd0⟩ := hsum ((Finset.range 640).erase k0) (Finset.erase_subset _ _)
  refine ⟨1 + d, ?_, by linarith⟩
  rw [total, h, ← Finset.add_sum_erase _ _ hk0, hd, ← he, show (Finset.range 640).sup sc = top sc from rfl, h, E_coe, sub_self, zero_mul, Real.rpow_zero, EReal.coe_add]

/-! ## The rows of a group -/

/-- The key that a row holds, less the group's first key. -/
def keyOf : Sz → ℕ → ℕ
  | .big, r => 32 * (r % 8) + r / 8
  | .mid, r => 32 * (r % 8 % 4) + 16 * (r % 8 / 4) + r / 8
  | .small, r => 32 * (r % 8 % 2) + 8 * (r % 8 / 2) + r / 8

/-- The greatest size. -/
theorem Sz.H_le (z : Sz) : z.H ≤ 16 := by cases z <;> decide

/-- A row's key is one of the group's. -/
theorem keyOf_lt (z : Sz) (r : ℕ) (h : r < 16 * z.H) : keyOf z r < 16 * z.H := by
  cases z <;> simp only [keyOf, Sz.H] at * <;> omega

/-- Different rows hold different keys. -/
theorem keyOf_inj (z : Sz) (r s : ℕ) (hr : r < 16 * z.H) (hs : s < 16 * z.H) (h : keyOf z r = keyOf z s) : r = s := by
  cases z <;> simp only [keyOf, Sz.H] at * <;> omega

/-- A sum over a group's rows is a sum over its keys. -/
theorem sum_rows (z : Sz) (f : ℕ → EReal) : ∑ r : Fin (16 * z.H), f (keyOf z r.val) = ∑ i ∈ Finset.range (16 * z.H), f i := by
  let g : Fin (16 * z.H) → Fin (16 * z.H) := fun r => ⟨keyOf z r.val, keyOf_lt z r.val r.isLt⟩
  have hg : Function.Bijective g := (Finite.injective_iff_bijective).1 fun r s h =>
    Fin.ext (keyOf_inj z r.val s.val r.isLt s.isLt (congrArg Fin.val h))
  rw [← Fin.sum_univ_eq_sum_range]
  exact (Function.Bijective.sum_comp hg fun i => f i.val)

/-- A sum over a group's rows, sublane by sublane, is a sum over its keys. -/
theorem sum_rows' (z : Sz) (f : ℕ → EReal) :
    ∑ c : Fin 8, ∑ j : Fin (2 * z.H), f (keyOf z (8 * j.val + c.val)) = ∑ i ∈ Finset.range (16 * z.H), f i := by
  rw [← sum_rows, Finset.sum_comm, ← Fintype.sum_prod_type' (f := fun (j : Fin (2 * z.H)) (c : Fin 8) => f (keyOf z (8 * j.val + c.val)))]
  have h : 2 * z.H * 8 = 16 * z.H := by ring
  refine Fintype.sum_equiv (finProdFinEquiv.trans (finCongr h)) _ _ fun x => ?_
  congr 2
  show 8 * x.1.val + x.2.val = x.2.val + 8 * x.1.val
  ring

/-- Some row holds each of the group's keys. -/
theorem row_of_key (z : Sz) (i : ℕ) (h : i < 16 * z.H) : ∃ (j : Fin (2 * z.H)) (c : Fin 8), keyOf z (8 * j.val + c.val) = i := by
  let g : Fin (16 * z.H) → Fin (16 * z.H) := fun r => ⟨keyOf z r.val, keyOf_lt z r.val r.isLt⟩
  have hg : Function.Surjective g := ((Finite.injective_iff_bijective).1 fun r s h =>
    Fin.ext (keyOf_inj z r.val s.val r.isLt s.isLt (congrArg Fin.val h))).2
  obtain ⟨r, hr⟩ := hg ⟨i, h⟩
  refine ⟨⟨r.val / 8, by have := r.isLt; omega⟩, ⟨r.val % 8, Nat.mod_lt _ (by decide)⟩, ?_⟩
  refine Eq.trans ?_ (congrArg Fin.val hr)
  show keyOf z (8 * (r.val / 8) + r.val % 8) = keyOf z r.val
  rw [Nat.div_add_mod]

/-- The groups follow one another, from key `a` to key `e`. -/
def chained : ℕ → List GDat → ℕ → Prop
  | a, [], e => a = e
  | a, g :: gs, e => g.start = a ∧ chained (a + 16 * g.sz.H) gs e

/-- A sum over the keys of groups that follow one another is a sum over an interval. -/
theorem chained_sum (f : ℕ → EReal) : ∀ (gs : List GDat) (a e : ℕ), chained a gs e →
    ∑ k ∈ Finset.range a, f k + (gs.map fun g => ∑ i ∈ Finset.range (16 * g.sz.H), f (g.start + i)).sum = ∑ k ∈ Finset.range e, f k
  | [], a, e, h => by obtain rfl : a = e := h; simp
  | g :: gs, a, e, h => by
    rw [List.map_cons, List.sum_cons, ← add_assoc, h.1, ← Finset.sum_range_add]
    exact chained_sum f gs _ e h.2

/-- The end is not before the start. -/
theorem chained_le : ∀ (gs : List GDat) (a e : ℕ), chained a gs e → a ≤ e
  | [], a, e, h => le_of_eq h
  | g :: gs, a, e, h => (Nat.le_add_right _ _).trans (chained_le gs _ e h.2)

/-- Every key from the start to the end is in a group. -/
theorem chained_mem : ∀ (gs : List GDat) (a e : ℕ), chained a gs e → ∀ k, a ≤ k → k < e → ∃ g ∈ gs, ∃ i < 16 * g.sz.H, k = g.start + i
  | [], a, e, h, k, h1, h2 => by obtain rfl : a = e := h; omega
  | g :: gs, a, e, h, k, h1, h2 => by
    by_cases hk : k < a + 16 * g.sz.H
    · exact ⟨g, by simp, k - a, by omega, by rw [h.1]; omega⟩
    · obtain ⟨g', hg, i, hi, e'⟩ := chained_mem gs _ e h.2 k (by omega) h2
      exact ⟨g', by simp [hg], i, hi, e'⟩

/-- Every group lies between the start and the end. -/
theorem chained_bounds : ∀ (gs : List GDat) (a e : ℕ), chained a gs e → ∀ g ∈ gs, a ≤ g.start ∧ g.start + 16 * g.sz.H ≤ e
  | g :: gs, a, e, h, g', hg => by
    rcases List.mem_cons.1 hg with rfl | hg
    · exact ⟨le_of_eq h.1.symm, by rw [h.1]; exact chained_le gs _ e h.2⟩
    · have := chained_bounds gs _ e h.2 g' hg
      omega

/-! ## A lane over keys -/

/-- What the groups of a lane are when their scores are those of the keys. -/
structure Keyed (sc : ℕ → EReal) (g : GDat) (x : LG) : Prop where
  n : x.n = 2 * g.sz.H
  S : ∀ (j : Fin x.n) (b : Fin 8), x.S j b = sc (g.start + keyOf g.sz (8 * j.val + b.val))

/-- The lane's maximum is that of all the scores. -/
theorem tmx_top (sc : ℕ → EReal) (e : ℕ) (he : e ≤ 640) (hsc : ∀ k, e ≤ k → sc k = ⊥) (g0 : GDat) (gs : List GDat)
    (hc : chained 0 (g0 :: gs) e) (Y : GDat → LG) (h : ∀ g ∈ g0 :: gs, Keyed sc g (Y g)) (b : Fin 8) : tmx (Y g0) (gs.map Y) b = top sc := by
  refine le_antisymm (tmx_le _ _ _ (fun y hy j c => ?_) b) (Finset.sup_le fun k hk => ?_)
  · obtain ⟨g, hg, rfl⟩ := List.mem_map.1 (List.map_cons (f := Y) ▸ hy)
    have hgy := h g hg
    rw [hgy.S]
    refine Finset.le_sup (f := sc) (Finset.mem_range.2 ?_)
    have h1 := (chained_bounds _ 0 e hc g hg).2
    have h2 : 8 * j.val + c.val < 16 * g.sz.H := by have h3 := j.isLt; have h4 := hgy.n; omega
    have := keyOf_lt g.sz _ h2
    omega
  · by_cases hke : k < e
    · obtain ⟨g, hg, i, hi, rfl⟩ := chained_mem _ 0 e hc k (Nat.zero_le _) hke
      have hgy := h g hg
      obtain ⟨j, c, hjc⟩ := row_of_key g.sz i hi
      have := hgy.S ⟨j.val, by rw [hgy.n]; exact j.isLt⟩ c
      simp only [hjc] at this
      rw [← this]
      exact ((Y g).le_mx _ c).trans (mx_le_tmx _ _ (Y g) (List.map_cons (f := Y) ▸ List.mem_map_of_mem hg) b c)
    · rw [hsc k (by omega)]; exact bot_le

/-- A sum over the lane's groups is a sum over all the keys. -/
theorem keyed_sum (f : ℕ → EReal) (e : ℕ) (he : e ≤ 640) (hf : ∀ k, e ≤ k → f k = 0) (gs : List GDat) (hc : chained 0 gs e) :
    (gs.map fun g => ∑ i ∈ Finset.range (16 * g.sz.H), f (g.start + i)).sum = ∑ k ∈ Finset.range 640, f k := by
  have h := chained_sum f gs 0 e hc
  rw [Finset.range_zero, Finset.sum_empty, zero_add] at h
  rw [h]
  refine Finset.sum_subset (fun k hk => ?_) fun k _ hk => hf k ?_
  · simp only [Finset.mem_range] at *; omega
  · simp only [Finset.mem_range] at *; omega

/-- The lane's sum of exponentials is that of all the scores. -/
theorem dn_total (sc : ℕ → EReal) (e : ℕ) (he : e ≤ 640) (hsc : ∀ k, e ≤ k → sc k = ⊥) (g0 : GDat) (gs : List GDat)
    (hc : chained 0 (g0 :: gs) e) (Y : GDat → LG) (h : ∀ g ∈ g0 :: gs, Keyed sc g (Y g)) (b : Fin 8) : dn (Y g0) (gs.map Y) b = total sc := by
  rw [dn_eq _ _ _ (tmx_top sc e he hsc g0 gs hc Y h), total,
    ← keyed_sum (fun k => E (sc k) (top sc)) e he (fun k hk => by rw [hsc k hk, E_bot]) (g0 :: gs) hc, ← List.map_cons, List.map_map]
  congr 1
  refine List.map_congr_left fun g hg => ?_
  rw [← sum_rows' g.sz fun i => E (sc (g.start + i)) (top sc)]
  refine Finset.sum_congr rfl fun c _ => ?_
  obtain ⟨hn, hS⟩ := h g hg
  show ∑ j, E ((Y g).S j c) (top sc) = _
  simp only [hS]
  generalize Y g = y at hn
  obtain ⟨n, rolls, S⟩ := y
  obtain rfl : n = 2 * g.sz.H := hn
  rfl

/-- A row's quantised weight is its key's weight. -/
theorem quant_weight (sc : ℕ → EReal) (e : ℕ) (he : e ≤ 640) (hsc : ∀ k, e ≤ k → sc k = ⊥) (g0 : GDat) (gs : List GDat)
    (hc : chained 0 (g0 :: gs) e) (Y : GDat → LG) (h : ∀ g ∈ g0 :: gs, Keyed sc g (Y g)) (g : GDat) (hg : g ∈ g0 :: gs)
    (j : Fin (Y g).n) (b : Fin 8) :
    quantE (E ((Y g).S j b) ((Y g).mx b)) (E ((Y g).mx b) (tmx (Y g0) (gs.map Y) b) * Ideal.div 1 (dn (Y g0) (gs.map Y) b))
      = weight sc (g.start + keyOf g.sz (8 * j.val + b.val)) := by
  have hm := tmx_top sc e he hsc g0 gs hc Y h b
  rw [quantE_weight ((Y g).le_mx j b) (mx_le_tmx _ _ (Y g) (List.map_cons (f := Y) ▸ List.mem_map_of_mem hg) b b), hm,
    dn_total sc e he hsc g0 gs hc Y h, (h g hg).S]
  · rfl
  · intro r hr
    rw [dn_total sc e he hsc g0 gs hc Y h]
    exact total_real sc r (hm ▸ hr)

/-! ## The scores of a tile -/

/-- The words that name a row's key. -/
theorem keyWord_at (z : Sz) {s : Shape} (x : IVec s 32) (i : s.Idx) (r : ℕ) (hr : r < 256) (hx : x i = BitVec.ofNat 32 r) :
    keyWord x z i = BitVec.ofNat 32 (keyOf z r) := by
  have h : ∀ r : Fin 256,
      (32#32 * (BitVec.ofNat 32 r.val &&& 7#32) + (BitVec.ofNat 32 r.val).sshiftRight 3 = BitVec.ofNat 32 (keyOf .big r.val))
      ∧ (32#32 * (BitVec.ofNat 32 r.val &&& 7#32 &&& 3#32) + 16#32 * (BitVec.ofNat 32 r.val &&& 7#32).sshiftRight 2 + (BitVec.ofNat 32 r.val).sshiftRight 3
        = BitVec.ofNat 32 (keyOf .mid r.val))
      ∧ (32#32 * (BitVec.ofNat 32 r.val &&& 7#32 &&& 1#32) + 8#32 * (BitVec.ofNat 32 r.val &&& 7#32).sshiftRight 1 + (BitVec.ofNat 32 r.val).sshiftRight 3
        = BitVec.ofNat 32 (keyOf .small r.val)) := by decide +kernel
  have h' := h ⟨r, hr⟩
  cases z
  · refine Eq.trans ?_ h'.1
    show 32#32 * (x i &&& 7#32) + (x i).sshiftRight 3 = _
    rw [hx]
  · refine Eq.trans ?_ h'.2.1
    show 32#32 * (x i &&& 7#32 &&& 3#32) + 16#32 * (x i &&& 7#32).sshiftRight 2 + (x i).sshiftRight 3 = _
    rw [hx]
  · refine Eq.trans ?_ h'.2.2
    show 32#32 * (x i &&& 7#32 &&& 1#32) + 8#32 * (x i &&& 7#32).sshiftRight 1 + (x i).sshiftRight 3 = _
    rw [hx]

/-- A row's key is its sublane's key plus its place. -/
theorem keyOf_row (z : Sz) (j b : ℕ) (hb : b < 8) : keyOf z (8 * j + b) = keyOf z b + j := by
  cases z <;> simp only [keyOf] <;> omega

/-- The six low bits of a lane. -/
theorem low_six (l : ℕ) (h : l < 256) : BitVec.ofNat 32 l &&& 63#32 = BitVec.ofNat 32 (l % 64) := by
  have h' : ∀ l : Fin 256, BitVec.ofNat 32 l.val &&& 63#32 = BitVec.ofNat 32 (l.val % 64) := by decide +kernel
  exact h' ⟨l, h⟩

/-- A signed comparison of small words. -/
theorem sle_small (a p s k : ℕ) (ha : a < 1024) (hp : p < 1024) (hs : s < 1024) (hk : k < 1024) :
    (BitVec.ofNat 32 a).sle (BitVec.ofNat 32 p - BitVec.ofNat 32 s - BitVec.ofNat 32 k) = decide (s + (k + a) ≤ p) := by
  have h1 : (BitVec.ofNat 32 a).toInt = a := by
    rw [BitVec.toInt_eq_toNat_cond, BitVec.toNat_ofNat]; omega
  have h2 : (BitVec.ofNat 32 p - BitVec.ofNat 32 s - BitVec.ofNat 32 k).toInt = (p : ℤ) - s - k := by
    rw [BitVec.toInt_eq_toNat_cond, BitVec.toNat_sub, BitVec.toNat_sub, BitVec.toNat_ofNat, BitVec.toNat_ofNat, BitVec.toNat_ofNat]
    omega
  rw [BitVec.sle, h1, h2]
  congr 1
  rw [eq_iff_iff]
  omega

variable {L Kc : ℕ}

/-- Which rows a lane may see. -/
theorem seen_at (q0 : ℕ) (g : GDat) (hq : q0 ≤ 640) (hL : L ≤ 256) (j : Fin (2 * g.sz.H)) (b : Fin 8) (l : Fin L) :
    seen L q0 g (ix3 j b l) = BitVec.ofBool (decide (g.start + keyOf g.sz (8 * j.val + b.val) ≤ q0 + l.val % 64)) := by
  have hj : j.val < 32 := by
    have h1 := j.isLt; have h2 := Sz.H_le g.sz; omega
  have hk : keyOf g.sz b.val < 256 := by
    have := b.isLt; cases g.sz <;> simp only [keyOf] <;> omega
  have hgs := g.hstart
  rw [keyOf_row _ _ _ b.isLt, ← sle_small j.val (q0 + l.val % 64) g.start (keyOf g.sz b.val) (by omega) (by omega) (by omega) (by omega)]
  refine congrArg BitVec.ofBool (congrArg₂ BitVec.sle ?_ ?_)
  · show BitVec.ofNat 32 (0 * (2 * g.sz.H) + j.val) = _
    rw [Nat.zero_mul, Nat.zero_add]
  · rw [spread_at, lead_at, subi_at, subi_at, keyWord_at g.sz (sub L) (ix2 b l) b.val (by omega) (by
      show BitVec.ofNat 32 (0 * 8 + b.val) = _
      rw [Nat.zero_mul, Nat.zero_add]), qpos, addi_at, broadcast_at, broadcast_at]
    congr 2
    rw [BitVec.ofNat_add]
    congr 1
    show BitVec.ofNat 32 (0 * L + l.val) &&& 63#32 = _
    rw [Nat.zero_mul, Nat.zero_add, low_six _ (by omega)]

/-- The scores of a query at position `p` against keys of one head, key by key. -/
def scoreOf (K : ℕ → ℕ → EReal) (Q : ℕ → EReal) (p k : ℕ) : EReal := if k ≤ p then ∑ d ∈ Finset.range 128, K k d * Q d else ⊥

/-- A group's scores are those of its keys. -/
theorem lg_keyed (q : FVec Ideal ⟨2, ![Kc, L]⟩ .bf16) (q0 : ℕ) (x : Grp Ideal Kc) (l : Fin L) (hL : L ≤ 256) (hq : q0 ≤ 640)
    (hg : x.g.start + 16 * x.g.sz.H = q0 + 64 ∨ x.g.start + 16 * x.g.sz.H ≤ q0) (K : ℕ → ℕ → EReal) (Q : ℕ → EReal)
    (hk : ∀ r : Fin (16 * x.g.sz.H), ∑ d : Fin Kc, x.k (ix2 r d) * q (ix2 d l)
      = ∑ d ∈ Finset.range 128, K (x.g.start + keyOf x.g.sz r.val) d * Q d) :
    Keyed (scoreOf K Q (q0 + l.val % 64)) x.g (lg q q0 l x) := by
  suffices key : ∀ (j : Fin (2 * x.g.sz.H)) (b : Fin 8), scores q q0 x (ix3 j b l)
      = scoreOf K Q (q0 + l.val % 64) (x.g.start + keyOf x.g.sz (8 * j.val + b.val)) from ⟨rfl, key⟩
  intro j b
  have hm : ∀ h, shapeCast ⟨3, ![2 * x.g.sz.H, 8, L]⟩
      (matmul (DotDims.plain (16 * x.g.sz.H) Kc L) none x.k q (constant _ .f32 0x00000000#32)) h (ix3 j b l)
      = ∑ d ∈ Finset.range 128, K (x.g.start + keyOf x.g.sz (8 * j.val + b.val)) d * Q d := fun h => by
    rw [split_at, mm_at, hk]
  unfold scores scoreOf
  split_ifs with hd hs hs
  · show Scalar.select (seen L q0 x.g (ix3 j b l)) _ _ = _
    rw [seen_at q0 x.g hq hL, decide_eq_true hs]
    exact hm _
  · show Scalar.select (seen L q0 x.g (ix3 j b l)) _ _ = _
    rw [seen_at q0 x.g hq hL, decide_eq_false hs]
    rfl
  · exact hm _
  · have hj : 8 * j.val + b.val < 16 * x.g.sz.H := by
      have h1 : j.val < 2 * x.g.sz.H := j.isLt
      omega
    have := keyOf_lt x.g.sz _ hj
    omega

end Cert.Attn
-- ==== Proof.Out.lean ====
/- A tile's two results at a lane: the softmax over the keys that the lane's query sees. -/
module

public import proofs.«01_k».proof.Proof.Lane

@[expose] public section

noncomputable section

namespace Cert.Attn

open Idealize.ShloMosaic Idealize.SL.Sem Cert.KernelIdeal

variable {L Kc : ℕ}

/-- A lane of a tile: its groups are the keys up to the tile's end, and its scores those of keys `K` against the query `Q`. -/
structure LaneOf (q : FVec Ideal ⟨2, ![Kc, L]⟩ .bf16) (q0 : ℕ) (G : GDat → Grp Ideal Kc) (g0 : GDat) (gs : List GDat) (l : Fin L)
    (K : ℕ → ℕ → EReal) (Q : ℕ → EReal) : Prop where
  hL : L ≤ 256
  hq : q0 + 64 ≤ 640
  hG : ∀ g, (G g).g = g
  hc : chained 0 (g0 :: gs) (q0 + 64)
  hd : ∀ g ∈ g0 :: gs, g.start + 16 * g.sz.H = q0 + 64 ∨ g.start + 16 * g.sz.H ≤ q0
  hk : ∀ g ∈ g0 :: gs, ∀ r : Fin (16 * (G g).g.sz.H), ∑ d : Fin Kc, (G g).k (ix2 r d) * q (ix2 d l)
    = ∑ d ∈ Finset.range 128, K (g.start + keyOf g.sz r.val) d * Q d

variable {q : FVec Ideal ⟨2, ![Kc, L]⟩ .bf16} {q0 : ℕ} {G : GDat → Grp Ideal Kc} {g0 : GDat} {gs : List GDat} {l : Fin L}
  {K : ℕ → ℕ → EReal} {Q : ℕ → EReal}

/-- Each group's scores are those of its keys. -/
theorem LaneOf.keyed (o : LaneOf q q0 G g0 gs l K Q) : ∀ g ∈ g0 :: gs, Keyed (scoreOf K Q (q0 + l.val % 64)) g (lg q q0 l (G g)) := by
  intro g hg
  have h := lg_keyed q q0 (G g) l o.hL (by have := o.hq; omega) (by rw [o.hG]; exact o.hd g hg) K Q (fun r =>
    (o.hk g hg r).trans (congrArg (fun g' : GDat => ∑ d ∈ Finset.range 128, K (g'.start + keyOf g'.sz r.val) d * Q d) (o.hG g).symm))
  rw [o.hG] at h
  exact h

/-- Past the tile's end there is nothing to see. -/
theorem LaneOf.dark (q0 l : ℕ) (K : ℕ → ℕ → EReal) (Q : ℕ → EReal) (k : ℕ) (h : q0 + 64 ≤ k) : scoreOf K Q (q0 + l % 64) k = ⊥ := by
  unfold scoreOf
  rw [if_neg (by omega)]

/-- The lane's maximum. -/
theorem LaneOf.top (o : LaneOf q q0 G g0 gs l K Q) (b : Fin 8) :
    tmx (lg q q0 l (G g0)) ((gs.map G).map (lg q q0 l)) b = top (scoreOf K Q (q0 + l.val % 64)) := by
  rw [List.map_map]
  exact tmx_top _ (q0 + 64) o.hq (LaneOf.dark q0 l.val K Q) g0 gs o.hc (fun g => lg q q0 l (G g)) o.keyed b

/-- The lane's sum of exponentials. -/
theorem LaneOf.total (o : LaneOf q q0 G g0 gs l K Q) (b : Fin 8) :
    dn (lg q q0 l (G g0)) ((gs.map G).map (lg q q0 l)) b = total (scoreOf K Q (q0 + l.val % 64)) := by
  rw [List.map_map]
  exact dn_total _ (q0 + 64) o.hq (LaneOf.dark q0 l.val K Q) g0 gs o.hc (fun g => lg q q0 l (G g)) o.keyed b

/-- The lane's weights. -/
theorem LaneOf.weight (o : LaneOf q q0 G g0 gs l K Q) (g : GDat) (hg : g ∈ g0 :: gs) (r : Fin (16 * (G g).g.sz.H)) :
    weights q q0 (G g0) (gs.map G) (G g) (ix2 r l) = Attn.weight (scoreOf K Q (q0 + l.val % 64)) (g.start + keyOf g.sz r.val) := by
  rw [weights_at, List.map_map]
  refine (quant_weight _ (q0 + 64) o.hq (LaneOf.dark q0 l.val K Q) g0 gs o.hc (fun g => lg q q0 l (G g)) o.keyed g hg _ _).trans ?_
  show Attn.weight _ (g.start + keyOf g.sz (8 * (r.val / 8) + r.val % 8)) = _
  rw [Nat.div_add_mod]

/-- A sum over the tile's groups of values against weights is the whole weighted sum. -/
theorem LaneOf.sum (o : LaneOf q q0 G g0 gs l K Q) (V : ℕ → EReal) (f : Grp Ideal Kc → EReal)
    (hf : ∀ g ∈ g0 :: gs, f (G g) = ∑ r : Fin (16 * (G g).g.sz.H), V (g.start + keyOf g.sz r.val)
      * Attn.weight (scoreOf K Q (q0 + l.val % 64)) (g.start + keyOf g.sz r.val)) :
    ((G g0 :: gs.map G).map f).sum = mixed (scoreOf K Q (q0 + l.val % 64)) V := by
  rw [mixed, ← keyed_sum (fun k => V k * Attn.weight (scoreOf K Q (q0 + l.val % 64)) k) (q0 + 64) o.hq (fun k hk => by
    show V k * Attn.weight _ k = 0
    rw [Attn.weight, LaneOf.dark q0 l.val K Q k hk, E_bot, zero_mul, mul_zero]) (g0 :: gs) o.hc, ← List.map_cons (f := G), List.map_map]
  congr 1
  refine List.map_congr_left fun g hg => ?_
  rw [Function.comp_apply, hf g hg, ← sum_rows g.sz (fun i => V (g.start + i) * Attn.weight (scoreOf K Q (q0 + l.val % 64)) (g.start + i))]
  rw [o.hG]

/-- The lane's output. -/
theorem LaneOf.out (o : LaneOf q q0 G g0 gs l K Q) (V : ℕ → EReal) (d : Fin 128)
    (hv : ∀ g ∈ g0 :: gs, ∀ r : Fin (16 * (G g).g.sz.H), (G g).v (ix3 0 d r) = V (g.start + keyOf g.sz r.val)) :
    tout q q0 (G g0) (gs.map G) (ix2 d l) = mixed (scoreOf K Q (q0 + l.val % 64)) V := by
  rw [tout_at]
  refine o.sum V _ fun g hg => ?_
  rw [gout_at]
  exact Finset.sum_congr rfl fun r _ => by rw [hv g hg r, o.weight g hg r]

/-- The lane's output from the second key-value head. -/
theorem LaneOf.out' {q : FVec Ideal ⟨2, ![Kc, 256]⟩ .bf16} (l : Fin 128)
    (o : LaneOf q q0 G g0 gs ⟨128 + l.val, by omega⟩ K Q) (V : ℕ → EReal) (d : Fin 128)
    (hv : ∀ g ∈ g0 :: gs, ∀ r : Fin (16 * (G g).g.sz.H), (G g).v' (ix3 0 d r) = V (g.start + keyOf g.sz r.val)) :
    tout' q q0 (G g0) (gs.map G) (ix2 d l) = mixed (scoreOf K Q (q0 + (128 + l.val) % 64)) V := by
  rw [tout'_at]
  refine o.sum V _ fun g hg => ?_
  rw [gout'_at]
  exact Finset.sum_congr rfl fun r _ => by rw [hv g hg r, o.weight g hg r]

/-- A count of keys as a float. -/
theorem count_at (p : ℕ) (hp : p < 1024) :
    Scalar.sitofp (F := Ideal) .f32 (BitVec.ofNat 32 p + 1#32) = (((p : ℝ) + 1 : ℝ) : EReal) := by
  have h : (BitVec.ofNat 32 p + 1#32).toInt = (p : ℤ) + 1 := by
    rw [BitVec.toInt_eq_toNat_cond, BitVec.toNat_add, BitVec.toNat_ofNat, BitVec.toNat_ofNat]; omega
  show (((BitVec.ofNat 32 p + 1#32).toInt : ℝ) : EReal) = _
  rw [h]
  push_cast
  rfl

/-- The lane's logarithm. -/
theorem LaneOf.lse (o : LaneOf q q0 G g0 gs l K Q) (z : Fin 1) :
    lseRow q q0 (G g0) (gs.map G) (ix2 z l) = lse (scoreOf K Q (q0 + l.val % 64)) (q0 + l.val % 64) := by
  have e : ∀ (x : FVec Ideal ⟨2, ![8, L]⟩ .f32) (h), extractStridedSlice ⟨2, ![1, L]⟩ ![0, 0] x h (ix2 z l) = x (ix2 0 l) := fun x h => by
    refine congrArg x ?_
    funext a
    apply Fin.ext
    match a with
    | ⟨0, _⟩ => show 0 + z.val = 0; omega
    | ⟨1, _⟩ => exact Nat.zero_add _
  have hw : addi (qpos L q0) (broadcast _ 1#32) (ix2 0 l) = BitVec.ofNat 32 (q0 + l.val % 64) + 1#32 := by
    rw [addi_at, qpos, addi_at, broadcast_at, broadcast_at, BitVec.ofNat_add]
    congr 2
    show BitVec.ofNat 32 (0 * L + l.val) &&& 63#32 = _
    have := o.hL
    rw [Nat.zero_mul, Nat.zero_add, low_six _ (by omega)]
  unfold lseRow
  rw [e]
  show (tmax q q0 (G g0) (gs.map G) (ix2 0 l) * (Named.named (F := Ideal) κ "score_scale" 0x3DB504F3#32 : Ideal .f32)
    + Ideal.log (den q q0 (G g0) (gs.map G) (ix2 0 l)) - Ideal.log (Scalar.sitofp (F := Ideal) .f32 (addi (qpos L q0) (broadcast _ 1#32) (ix2 0 l))) : EReal) = _
  rw [tmax_at, den_at, o.top, o.total, hw, count_at _ (by have := o.hq; omega), named_scale, Attn.lse]

/-- Every query tile's groups follow one another up to its last key, and only the last meets the diagonal. -/
theorem qtiles_ok : ∀ t ∈ qtiles, chained 0 (t.g0 :: t.gs) (64 * t.i + 64)
    ∧ ∀ g ∈ t.g0 :: t.gs, g.start + 16 * g.sz.H = 64 * t.i + 64 ∨ g.start + 16 * g.sz.H ≤ 64 * t.i := by
  intro t ht
  simp only [qtiles, List.mem_cons, List.not_mem_nil, or_false] at ht
  rcases ht with rfl | rfl | rfl | rfl | rfl | rfl | rfl | rfl | rfl | rfl <;>
    simp [chained, small0, small1, small2, small3, small4, mid0, mid1, mid2, big0, big1, Sz.H]

end Cert.Attn
-- ==== Proof.Load.lean ====
/- The decoded queries, keys and values at an index, and what the scratch buffers hold. -/
module

public import proofs.«01_k».proof.Proof.Out

@[expose] public section

noncomputable section

namespace Cert.Attn

open Idealize.ShloMosaic Idealize.SL.Sem Cert.KernelIdeal

/-! ## Reading the inputs -/

/-- A scale byte as the kernel decodes it: the byte is the exponent of a power of two. -/
def dec (b : BitVec 8) : EReal := Ideal.ofBits .f32 (IntOp.shli .vector (b.setWidth 32) 23#32)

/-- A small number as an element of a range. -/
theorem ofNat_eq {n k : ℕ} [NeZero n] (h : k < n) : Fin.ofNat n k = ⟨k, h⟩ := Fin.ext (Nat.mod_eq_of_lt h)

variable {n L : ℕ}

/-- Two leading axes of one dropped. -/
theorem drop2_at {α : Type} (x : (⟨4, ![1, 1, n, L]⟩ : Shape).Idx → α) (h : (⟨4, ![1, 1, n, L]⟩ : Shape).ShapeCasts ⟨2, ![n, L]⟩)
    (b : Fin n) (l : Fin L) : shapeCast ⟨2, ![n, L]⟩ x h (ix2 b l) = x (ix4 0 0 b l) :=
  congrArg x (Shape.reshapeEquiv_eq_of_vals h _ _ _ _ (rowMajor_val4 _ (1 * (n * L)) (n * L) L rfl rfl rfl) (rowMajor_val2 _ L rfl)
    (by show 0 * (1 * (n * L)) + 0 * (n * L) + b.val * L + l.val = b.val * L + l.val; ring))

/-- A transpose of two axes. -/
theorem transpose_at {α : Type} (x : (⟨2, ![n, L]⟩ : Shape).Idx → α) (h) (l : Fin L) (b : Fin n) :
    transpose ⟨2, ![L, n]⟩ [1, 0] x h (ix2 l b) = x (ix2 b l) := by
  refine congrArg x ?_
  funext a
  apply Fin.ext
  match a with
  | ⟨0, _⟩ => rfl
  | ⟨1, _⟩ => rfl

/-- A slice of two axes. -/
theorem slice_at {α : Type} {n' L' o o' : ℕ} (x : (⟨2, ![n, L]⟩ : Shape).Idx → α) (h) (b : Fin n') (l : Fin L') (hb : o + b.val < n) (hl : o' + l.val < L) :
    extractStridedSlice ⟨2, ![n', L']⟩ ![o, o'] x h (ix2 b l) = x (ix2 ⟨o + b.val, hb⟩ ⟨o' + l.val, hl⟩) := by
  refine congrArg x ?_
  funext a
  apply Fin.ext
  match a with
  | ⟨0, _⟩ => rfl
  | ⟨1, _⟩ => rfl

/-- A reshape that keeps the shape. -/
theorem same_at {α : Type} (x : (⟨2, ![n, L]⟩ : Shape).Idx → α) (h : (⟨2, ![n, L]⟩ : Shape).ShapeCasts ⟨2, ![n, L]⟩) (b : Fin n) (l : Fin L) :
    shapeCast ⟨2, ![n, L]⟩ x h (ix2 b l) = x (ix2 b l) :=
  congrArg x (Shape.reshapeEquiv_eq_of_vals h _ _ _ _ (rowMajor_val2 _ L rfl) (rowMajor_val2 _ L rfl) rfl)

/-- One row repeated. -/
theorem row_at {α : Type} (x : (⟨2, ![1, L]⟩ : Shape).Idx → α) (h : (⟨2, ![1, L]⟩ : Shape).Broadcasts ⟨2, ![n, L]⟩) (b : Fin n) (l : Fin L) :
    broadcastTo ⟨2, ![n, L]⟩ x h (ix2 b l) = x (ix2 0 l) := by
  unfold broadcastTo
  congr 1
  funext a
  apply Fin.ext
  match a with
  | ⟨0, _⟩ => simp [ix2]
  | ⟨1, _⟩ =>
    split_ifs with hn
    · have hn' : L = 1 := hn
      have := l.isLt
      show 0 = l.val
      omega
    · rfl

/-- A block's scale in each of its rows. -/
theorem scaleRows_at {m : ℕ} (s : FVec Ideal ⟨2, ![m, L]⟩ .bf16) (r : ℕ) (h : r + 1 ≤ m) (i : Fin 32) (l : Fin L) :
    scaleRows s r h (ix2 i l) = s (ix2 ⟨r, h⟩ l) := by
  unfold scaleRows
  rw [row_at, same_at, slice_at s _ 0 l h (by omega)]
  congr 2
  exact Fin.ext (Nat.zero_add _)

/-- Decoded entries. -/
theorem decoded_at (q : FVec Ideal ⟨2, ![L, 128]⟩ .fp8e4m3) (s : FVec Ideal ⟨2, ![4, L]⟩ .f32) (d : Fin 128) (l : Fin L) :
    decoded q s (ix2 d l) = (q (ix2 l d) * s (ix2 ⟨d.val / 32, by omega⟩ l) : EReal) := by
  unfold decoded
  rw [mulf_at, transpose_at]
  refine congrArg (fun u : EReal => q (ix2 l d) * u) ?_
  have hd : d.val / 32 = 0 ∨ d.val / 32 = 1 ∨ d.val / 32 = 2 ∨ d.val / 32 = 3 := by omega
  have hi : ∀ (b : Fin 2), b ≠ 0 → (ix2 (⟨d.val % 32, Nat.mod_lt _ (by decide)⟩ : Fin 32) l b).val = (ix2 d l b).val := fun b hb => by
    match b with
    | ⟨0, _⟩ => exact absurd rfl hb
    | ⟨1, _⟩ => rfl
  rcases hd with h | h | h | h
  · refine (concatenate_apply_piece 0 _ _ (ix2 d l) 0 (by simp) ⟨2, ![32, L]⟩ (scaleRows (truncf .bf16 s (by decide)) 0 (by decide)) rfl rfl 0 rfl (ix2 ⟨d.val % 32, Nat.mod_lt _ (by decide)⟩ l) hi
      (by show 0 + d.val % 32 = d.val; omega)).trans ?_
    rw [scaleRows_at]
    simp only [h]
    rfl
  · refine (concatenate_apply_piece 0 _ _ (ix2 d l) 1 (by simp) ⟨2, ![32, L]⟩ (scaleRows (truncf .bf16 s (by decide)) 1 (by decide)) rfl rfl 32 rfl (ix2 ⟨d.val % 32, Nat.mod_lt _ (by decide)⟩ l) hi
      (by show 32 + d.val % 32 = d.val; omega)).trans ?_
    rw [scaleRows_at]
    simp only [h]
    rfl
  · refine (concatenate_apply_piece 0 _ _ (ix2 d l) 2 (by simp) ⟨2, ![32, L]⟩ (scaleRows (truncf .bf16 s (by decide)) 2 (by decide)) rfl rfl 64 rfl (ix2 ⟨d.val % 32, Nat.mod_lt _ (by decide)⟩ l) hi
      (by show 64 + d.val % 32 = d.val; omega)).trans ?_
    rw [scaleRows_at]
    simp only [h]
    rfl
  · refine (concatenate_apply_piece 0 _ _ (ix2 d l) 3 (by simp) ⟨2, ![32, L]⟩ (scaleRows (truncf .bf16 s (by decide)) 3 (by decide)) rfl rfl 96 rfl (ix2 ⟨d.val % 32, Nat.mod_lt _ (by decide)⟩ l) hi
      (by show 96 + d.val % 32 = d.val; omega)).trans ?_
    rw [scaleRows_at]
    simp only [h]
    rfl

/-- Queries of one head. -/
theorem qScales_at (x : IVec ⟨4, ![1, 1, 4, 64]⟩ 8) (b : Fin 4) (l : Fin 64) : qScales (F := Ideal) x (ix2 b l) = dec (x (ix4 0 0 b l)) := by
  show dec (shapeCast ⟨2, ![4, 64]⟩ x _ (ix2 b l)) = _
  rw [drop2_at]

/-- The decoded keys. -/
theorem keysT_at (k : FVec Ideal ⟨4, ![1, 1, 640, 128]⟩ .fp8e4m3) (s : IVec ⟨4, ![1, 1, 4, 640]⟩ 8) (d : Fin 128) (i : Fin 640) :
    keysT k s (ix2 d i) = (k (ix4 0 0 i d) * dec (s (ix4 0 0 ⟨d.val / 32, by omega⟩ i)) : EReal) := by
  unfold keysT
  rw [decoded_at, drop2_at]
  refine congrArg (fun u : EReal => k (ix4 0 0 i d) * u) ?_
  show dec (shapeCast ⟨2, ![4, 640]⟩ s _ (ix2 _ i)) = _
  rw [drop2_at]

/-- The decoded values. -/
theorem vals_at (v : FVec Ideal ⟨4, ![1, 1, 640, 128]⟩ .fp8e4m3) (s : IVec ⟨4, ![1, 1, 20, 128]⟩ 8) (i : Fin 640) (d : Fin 128) :
    vals v s (ix2 i d) = (v (ix4 0 0 i d) * dec (s (ix4 0 0 ⟨i.val / 32, by omega⟩ d)) : EReal) := by
  unfold vals
  rw [mulf_at, extf_at, drop2_at]
  refine congrArg (fun u : EReal => v (ix4 0 0 i d) * u) ?_
  have hk : ∀ r : Fin 20, ([0, 1, 2, 3, 4, 5, 6, 7, 8, 9, 10, 11, 12, 13, 14, 15, 16, 17, 18, 19] : List (Fin 20))[r.val]'(by simp) = r := by decide
  have hp : ∀ r : Fin 20, (((([0, 1, 2, 3, 4, 5, 6, 7, 8, 9, 10, 11, 12, 13, 14, 15, 16, 17, 18, 19].map
      fun _ : Fin 20 => (⟨2, ![32, 128]⟩ : Shape)).take r.val)).map fun s : Shape => if h : s.rank = 2 then s.size ((0 : Fin 2).cast h.symm) else 0).sum = 32 * r.val := by
    decide +kernel
  have hr : i.val / 32 < 20 := by omega
  refine (concatenate_apply_piece 0 _ _ (ix2 i d) (i.val / 32) (by simpa using hr) ⟨2, ![32, 128]⟩ (scaleRows _ (i.val / 32) hr)
    (by rw [List.getElem_map, hk ⟨i.val / 32, hr⟩]) rfl (32 * (i.val / 32))
    (by rw [List.map_take, List.map_map]; exact hp ⟨i.val / 32, hr⟩)
    (ix2 ⟨i.val % 32, Nat.mod_lt _ (by decide)⟩ d) ?_ (by show 32 * (i.val / 32) + i.val % 32 = i.val; omega)).trans ?_
  · intro b hb
    match b with
    | ⟨0, _⟩ => exact absurd rfl hb
    | ⟨1, _⟩ => rfl
  · rw [scaleRows_at, truncf_at]
    show dec (shapeCast ⟨2, ![20, 128]⟩ s _ (ix2 _ d)) = _
    rw [drop2_at]

/-- Four heads' queries. -/
theorem cat4_at (x : Fin 4 → FVec Ideal ⟨4, ![1, 1, 64, 128]⟩ .fp8e4m3) (l : Fin 256) (d : Fin 128) :
    cat4 x (ix2 l d) = x ⟨l.val / 64, by omega⟩ (ix4 0 0 ⟨l.val % 64, Nat.mod_lt _ (by decide)⟩ d) := by
  have hi : ∀ (b : Fin 2), b ≠ 0 → (ix2 (⟨l.val % 64, Nat.mod_lt _ (by decide)⟩ : Fin 64) d b).val = (ix2 l d b).val := fun b hb => by
    match b with
    | ⟨0, _⟩ => exact absurd rfl hb
    | ⟨1, _⟩ => rfl
  have hl : l.val / 64 = 0 ∨ l.val / 64 = 1 ∨ l.val / 64 = 2 ∨ l.val / 64 = 3 := by omega
  unfold cat4
  rcases hl with h | h | h | h <;> simp only [h]
  · refine (concatenate_apply_piece 0 _ _ (ix2 l d) 0 (by simp) ⟨2, ![64, 128]⟩ (qRows (x 0)) rfl rfl 0 rfl (ix2 ⟨l.val % 64, Nat.mod_lt _ (by decide)⟩ d) hi
      (by show 0 + l.val % 64 = l.val; omega)).trans (drop2_at _ _ _ _)
  · refine (concatenate_apply_piece 0 _ _ (ix2 l d) 1 (by simp) ⟨2, ![64, 128]⟩ (qRows (x 1)) rfl rfl 64 rfl (ix2 ⟨l.val % 64, Nat.mod_lt _ (by decide)⟩ d) hi
      (by show 64 + l.val % 64 = l.val; omega)).trans (drop2_at _ _ _ _)
  · refine (concatenate_apply_piece 0 _ _ (ix2 l d) 2 (by simp) ⟨2, ![64, 128]⟩ (qRows (x 2)) rfl rfl 128 rfl (ix2 ⟨l.val % 64, Nat.mod_lt _ (by decide)⟩ d) hi
      (by show 128 + l.val % 64 = l.val; omega)).trans (drop2_at _ _ _ _)
  · refine (concatenate_apply_piece 0 _ _ (ix2 l d) 3 (by simp) ⟨2, ![64, 128]⟩ (qRows (x 3)) rfl rfl 192 rfl (ix2 ⟨l.val % 64, Nat.mod_lt _ (by decide)⟩ d) hi
      (by show 192 + l.val % 64 = l.val; omega)).trans (drop2_at _ _ _ _)

/-- Two heads' queries. -/
theorem cat2_at (x : Fin 2 → FVec Ideal ⟨4, ![1, 1, 64, 128]⟩ .fp8e4m3) (l : Fin 128) (d : Fin 128) :
    cat2 x (ix2 l d) = x ⟨l.val / 64, by omega⟩ (ix4 0 0 ⟨l.val % 64, Nat.mod_lt _ (by decide)⟩ d) := by
  have hi : ∀ (b : Fin 2), b ≠ 0 → (ix2 (⟨l.val % 64, Nat.mod_lt _ (by decide)⟩ : Fin 64) d b).val = (ix2 l d b).val := fun b hb => by
    match b with
    | ⟨0, _⟩ => exact absurd rfl hb
    | ⟨1, _⟩ => rfl
  have hl : l.val / 64 = 0 ∨ l.val / 64 = 1 := by omega
  unfold cat2
  rcases hl with h | h <;> simp only [h]
  · refine (concatenate_apply_piece 0 _ _ (ix2 l d) 0 (by simp) ⟨2, ![64, 128]⟩ (qRows (x 0)) rfl rfl 0 rfl (ix2 ⟨l.val % 64, Nat.mod_lt _ (by decide)⟩ d) hi
      (by show 0 + l.val % 64 = l.val; omega)).trans (drop2_at _ _ _ _)
  · refine (concatenate_apply_piece 0 _ _ (ix2 l d) 1 (by simp) ⟨2, ![64, 128]⟩ (qRows (x 1)) rfl rfl 64 rfl (ix2 ⟨l.val % 64, Nat.mod_lt _ (by decide)⟩ d) hi
      (by show 64 + l.val % 64 = l.val; omega)).trans (drop2_at _ _ _ _)

/-- Four heads' scales. -/
theorem scat4_at (x : Fin 4 → IVec ⟨4, ![1, 1, 4, 64]⟩ 8) (b : Fin 4) (l : Fin 256) :
    scat4 (F := Ideal) x (ix2 b l) = dec (x ⟨l.val / 64, by omega⟩ (ix4 0 0 b ⟨l.val % 64, Nat.mod_lt _ (by decide)⟩)) := by
  have hi : ∀ (c : Fin 2), c ≠ 1 → (ix2 b (⟨l.val % 64, Nat.mod_lt _ (by decide)⟩ : Fin 64) c).val = (ix2 b l c).val := fun c hc => by
    match c with
    | ⟨0, _⟩ => rfl
    | ⟨1, _⟩ => exact absurd rfl hc
  have hl : l.val / 64 = 0 ∨ l.val / 64 = 1 ∨ l.val / 64 = 2 ∨ l.val / 64 = 3 := by omega
  unfold scat4
  rcases hl with h | h | h | h <;> simp only [h]
  · refine (concatenate_apply_piece 1 _ _ (ix2 b l) 0 (by simp) ⟨2, ![4, 64]⟩ (qScales (x 0)) rfl rfl 0 rfl (ix2 b ⟨l.val % 64, Nat.mod_lt _ (by decide)⟩) hi
      (by show 0 + l.val % 64 = l.val; omega)).trans (qScales_at _ _ _)
  · refine (concatenate_apply_piece 1 _ _ (ix2 b l) 1 (by simp) ⟨2, ![4, 64]⟩ (qScales (x 1)) rfl rfl 64 rfl (ix2 b ⟨l.val % 64, Nat.mod_lt _ (by decide)⟩) hi
      (by show 64 + l.val % 64 = l.val; omega)).trans (qScales_at _ _ _)
  · refine (concatenate_apply_piece 1 _ _ (ix2 b l) 2 (by simp) ⟨2, ![4, 64]⟩ (qScales (x 2)) rfl rfl 128 rfl (ix2 b ⟨l.val % 64, Nat.mod_lt _ (by decide)⟩) hi
      (by show 128 + l.val % 64 = l.val; omega)).trans (qScales_at _ _ _)
  · refine (concatenate_apply_piece 1 _ _ (ix2 b l) 3 (by simp) ⟨2, ![4, 64]⟩ (qScales (x 3)) rfl rfl 192 rfl (ix2 b ⟨l.val % 64, Nat.mod_lt _ (by decide)⟩) hi
      (by show 192 + l.val % 64 = l.val; omega)).trans (qScales_at _ _ _)

/-- Two heads' scales. -/
theorem scat2_at (x : Fin 2 → IVec ⟨4, ![1, 1, 4, 64]⟩ 8) (b : Fin 4) (l : Fin 128) :
    scat2 (F := Ideal) x (ix2 b l) = dec (x ⟨l.val / 64, by omega⟩ (ix4 0 0 b ⟨l.val % 64, Nat.mod_lt _ (by decide)⟩)) := by
  have hi : ∀ (c : Fin 2), c ≠ 1 → (ix2 b (⟨l.val % 64, Nat.mod_lt _ (by decide)⟩ : Fin 64) c).val = (ix2 b l c).val := fun c hc => by
    match c with
    | ⟨0, _⟩ => rfl
    | ⟨1, _⟩ => exact absurd rfl hc
  have hl : l.val / 64 = 0 ∨ l.val / 64 = 1 := by omega
  unfold scat2
  rcases hl with h | h <;> simp only [h]
  · refine (concatenate_apply_piece 1 _ _ (ix2 b l) 0 (by simp) ⟨2, ![4, 64]⟩ (qScales (x 0)) rfl rfl 0 rfl (ix2 b ⟨l.val % 64, Nat.mod_lt _ (by decide)⟩) hi
      (by show 0 + l.val % 64 = l.val; omega)).trans (qScales_at _ _ _)
  · refine (concatenate_apply_piece 1 _ _ (ix2 b l) 1 (by simp) ⟨2, ![4, 64]⟩ (qScales (x 1)) rfl rfl 64 rfl (ix2 b ⟨l.val % 64, Nat.mod_lt _ (by decide)⟩) hi
      (by show 64 + l.val % 64 = l.val; omega)).trans (qScales_at _ _ _)

/-! ## The queries of a tile -/

/-- A decoded query entry: head, position, feature. -/
def qval (x0 : Vec Ideal S1x14x640x128 .fp8e4m3) (x1 : Vec Ideal S1x14x4x640 .i8) (h p d : ℕ) : EReal :=
  x0 (ix4 0 (Fin.ofNat 14 h) (Fin.ofNat 640 p) (Fin.ofNat 128 d)) * dec (x1 (ix4 0 (Fin.ofNat 14 h) (Fin.ofNat 4 (d / 32)) (Fin.ofNat 640 p)))
/-- A decoded key entry: key-value head, key, feature. -/
def kval (x2 : Vec Ideal S1x2x640x128 .fp8e4m3) (x3 : Vec Ideal S1x2x4x640 .i8) (h k d : ℕ) : EReal :=
  x2 (ix4 0 (Fin.ofNat 2 h) (Fin.ofNat 640 k) (Fin.ofNat 128 d)) * dec (x3 (ix4 0 (Fin.ofNat 2 h) (Fin.ofNat 4 (d / 32)) (Fin.ofNat 640 k)))
/-- A decoded value entry: key-value head, key, feature. -/
def vval (x4 : Vec Ideal S1x2x640x128 .fp8e4m3) (x5 : Vec Ideal S1x2x20x128 .i8) (h k d : ℕ) : EReal :=
  x4 (ix4 0 (Fin.ofNat 2 h) (Fin.ofNat 640 k) (Fin.ofNat 128 d)) * dec (x5 (ix4 0 (Fin.ofNat 2 h) (Fin.ofNat 20 (k / 32)) (Fin.ofNat 128 d)))

/-- A load through a rectangle of a whole buffer that was given its contents. -/
theorem load_at {s : Shape} {e : EltTy} (arg : Memref sig .tc .vmem s e) (harg : arg.IsWhole) (x : Vec Ideal s e) (B : LoadRect s) (j : B.shape.Idx) :
    arg.view.readAt (Elt Ideal) B (harg.unread x) j = x (B.idx j) :=
  congrFun (harg.read_unread x) (B.idx j)

section
variable (arg1 : Memref sig .tc .vmem S1x14x640x128 .fp8e4m3) (harg1 : arg1.IsWhole)
    (arg2 : Memref sig .tc .vmem S1x14x4x640 .i8) (harg2 : arg2.IsWhole)
    (x0 : Vec Ideal S1x14x640x128 .fp8e4m3) (x1 : Vec Ideal S1x14x4x640 .i8)

/-- A loaded query code. -/
theorem ldQ_at (i h : ℕ) (hi : i < 10) (hh : h < 14) (a : Fin 64) (d : Fin 128) :
    ldQ arg1 harg1 x0 i h hi hh (ix4 0 0 a d) = x0 (ix4 0 ⟨h, hh⟩ ⟨64 * i + a.val, by omega⟩ d) := by
  unfold ldQ
  refine (load_at arg1 harg1 x0 _ _).trans (congrArg x0 ?_)
  funext b
  apply Fin.ext
  match b with
  | ⟨0, _⟩ => rfl
  | ⟨1, _⟩ => show h + 1 * 0 = h; omega
  | ⟨2, _⟩ => show 64 * i + 1 * a.val = 64 * i + a.val; omega
  | ⟨3, _⟩ => show 0 + 1 * d.val = d.val; omega

/-- A loaded query scale. -/
theorem ldS_at (i h : ℕ) (hi : i < 10) (hh : h < 14) (b : Fin 4) (a : Fin 64) :
    ldS arg2 harg2 x1 i h hi hh (ix4 0 0 b a) = x1 (ix4 0 ⟨h, hh⟩ b ⟨64 * i + a.val, by omega⟩) := by
  unfold ldS
  refine (load_at arg2 harg2 x1 _ _).trans (congrArg x1 ?_)
  funext c
  apply Fin.ext
  match c with
  | ⟨0, _⟩ => rfl
  | ⟨1, _⟩ => show h + 1 * 0 = h; omega
  | ⟨2, _⟩ => show 0 + 1 * b.val = b.val; omega
  | ⟨3, _⟩ => show 64 * i + 1 * a.val = 64 * i + a.val; omega

/-- The decoded queries of four heads. -/
theorem q4_at (i h : ℕ) (hi : i < 10) (hh : h + 3 < 14) (d : Fin 128) (l : Fin 256) :
    q4 arg1 harg1 arg2 harg2 x0 x1 i h hi hh (ix2 d l) = qval x0 x1 (h + l.val / 64) (64 * i + l.val % 64) d.val := by
  unfold q4 qval
  rw [decoded_at, cat4_at, scat4_at, ldQ_at, ldS_at, ofNat_eq (show h + l.val / 64 < 14 by omega),
    ofNat_eq (show 64 * i + l.val % 64 < 640 by omega), ofNat_eq d.isLt, ofNat_eq (show d.val / 32 < 4 by omega)]

/-- The decoded queries of two heads. -/
theorem q2_at (i h : ℕ) (hi : i < 10) (hh : h + 1 < 14) (d : Fin 128) (l : Fin 128) :
    q2 arg1 harg1 arg2 harg2 x0 x1 i h hi hh (ix2 d l) = qval x0 x1 (h + l.val / 64) (64 * i + l.val % 64) d.val := by
  unfold q2 qval
  rw [decoded_at, cat2_at, scat2_at, ldQ_at, ldS_at, ofNat_eq (show h + l.val / 64 < 14 by omega),
    ofNat_eq (show 64 * i + l.val % 64 < 640 by omega), ofNat_eq d.isLt, ofNat_eq (show d.val / 32 < 4 by omega)]
end

/-- The queries of the mixed tile against both heads' keys are those against the keys of the lane's own head. -/
theorem mixedQ_sum (q : FVec Ideal ⟨2, ![128, 256]⟩ .bf16) (k : ℕ → EReal) (l : Fin 256) :
    ∑ e : Fin 256, k e.val * mixedQ q (ix2 e l) = ∑ d : Fin 128, k (128 * ((4 + l.val / 64) / 7) + d.val) * q (ix2 d l) := by
  have h0 : (Scalar.ofBits (F := Ideal) .bf16 0x0000#16 : EReal) = 0 := by
    show Ideal.ofBits .bf16 0x0000#16 = 0
    simp [Ideal.ofBits, Ideal.ieee]
  have hs : BitVec.ofBool ((BitVec.ofNat 32 l.val).slt 192#32) = BitVec.ofBool (decide (l.val < 192)) := by
    have h : ∀ l : Fin 256, (BitVec.ofNat 32 l.val).slt 192#32 = decide (l.val < 192) := by decide +kernel
    rw [h l]
  have hw : cmpi .slt (iota .tc ⟨2, ![128, 256]⟩ 32 [1] (iota_ok2 _ _ 1)) (broadcast _ 192#32) = fun j => BitVec.ofBool ((BitVec.ofNat 32 (j 1).val).slt 192#32) := by
    funext j
    show BitVec.ofBool ((BitVec.ofNat 32 (0 * 256 + (j 1).val)).slt 192#32) = _
    rw [Nat.zero_mul, Nat.zero_add]
  have hlo : ∀ d : Fin 128, mixedQ q (ix2 ⟨d.val, by omega⟩ l) = if l.val < 192 then q (ix2 d l) else (0 : EReal) := fun d => by
    unfold mixedQ
    refine (concatenate_pair_apply_left (t := ⟨2, ![256, 256]⟩) 0 _ _ cat_m _ rfl (ix2 d l) fun b => ?_).trans ?_
    · match b with
      | ⟨0, _⟩ => rfl
      | ⟨1, _⟩ => rfl
    · rw [hw]
      show Scalar.select (BitVec.ofBool ((BitVec.ofNat 32 l.val).slt 192#32)) _ _ = _
      rw [hs]
      by_cases h : l.val < 192
      · rw [if_pos h, decide_eq_true h]; rfl
      · rw [if_neg h, decide_eq_false h, ← h0]; rfl
  have hhi : ∀ d : Fin 128, mixedQ q (ix2 ⟨128 + d.val, by omega⟩ l) = if l.val < 192 then (0 : EReal) else q (ix2 d l) := fun d => by
    unfold mixedQ
    refine (concatenate_pair_apply_right (t := ⟨2, ![256, 256]⟩) 0 _ _ cat_m _ rfl rfl (ix2 d l) (fun b hb => ?_) ?_).trans ?_
    · match b with
      | ⟨0, _⟩ => exact absurd rfl hb
      | ⟨1, _⟩ => rfl
    · exact Nat.add_comm d.val 128
    · rw [hw]
      show Scalar.select (BitVec.ofBool ((BitVec.ofNat 32 l.val).slt 192#32)) _ _ = _
      rw [hs]
      by_cases h : l.val < 192
      · rw [if_pos h, decide_eq_true h, ← h0]; rfl
      · rw [if_neg h, decide_eq_false h]; rfl
  have hsplit := Fin.sum_univ_add (fun e : Fin (128 + 128) => k e.val * mixedQ q (ix2 (n0 := 256) e l))
  refine hsplit.trans ?_
  have h1 : ∑ d : Fin 128, k (Fin.castAdd 128 d).val * mixedQ q (ix2 (n0 := 256) (Fin.castAdd 128 d) l)
      = ∑ d : Fin 128, k d.val * (if l.val < 192 then q (ix2 d l) else (0 : EReal)) :=
    Finset.sum_congr rfl fun d _ => by rw [← hlo d]; rfl
  have h2 : ∑ d : Fin 128, k (Fin.natAdd 128 d).val * mixedQ q (ix2 (n0 := 256) (Fin.natAdd 128 d) l)
      = ∑ d : Fin 128, k (128 + d.val) * (if l.val < 192 then (0 : EReal) else q (ix2 d l)) :=
    Finset.sum_congr rfl fun d _ => by rw [← hhi d]; rfl
  rw [h1, h2]
  by_cases h : l.val < 192
  · have : (4 + l.val / 64) / 7 = 0 := by omega
    simp [h, this]
  · have : (4 + l.val / 64) / 7 = 1 := by omega
    simp [h, this]

end Cert.Attn
-- ==== Proof.Perm.lean ====
/- What the scratch buffers hold: the decoded keys and values in the order of the groups' rows. -/
module

public import proofs.«01_k».proof.Proof.Load

@[expose] public section

noncomputable section

namespace Cert.Attn

open Idealize.ShloMosaic Idealize.SL.Sem Cert.KernelIdeal

/-! ## The permutation -/

/-- A bit as a float. -/
theorem bit_float (p : Prop) [Decidable p] :
    Scalar.sitofp (F := Ideal) .f32 ((BitVec.ofBool (decide p)).setWidth 32) = (if p then (1 : EReal) else 0) := by
  by_cases h : p
  · rw [if_pos h, decide_eq_true h]
    show (((BitVec.setWidth 32 (BitVec.ofBool true)).toInt : ℝ) : EReal) = 1
    rw [show (BitVec.setWidth 32 (BitVec.ofBool true)).toInt = 1 by decide]
    norm_num
  · rw [if_neg h, decide_eq_false h]
    show (((BitVec.setWidth 32 (BitVec.ofBool false)).toInt : ℝ) : EReal) = 0
    rw [show (BitVec.setWidth 32 (BitVec.ofBool false)).toInt = 0 by decide]
    norm_num

/-- The permutation's entries. -/
theorem perm_at (z : Sz) (r c : Fin (16 * z.H)) : perm (F := Ideal) z (ix2 r c) = (if keyOf z r.val = c.val then (1 : EReal) else 0) := by
  have hH := Sz.H_le z
  have hk := keyOf_lt z r.val r.isLt
  rw [← bit_float]
  refine congrArg (fun b : Bool => Scalar.sitofp (F := Ideal) .f32 ((BitVec.ofBool b).setWidth 32)) ?_
  show (keyWord (iota .tc ⟨2, ![16 * z.H, 16 * z.H]⟩ 32 [0] (iota_ok2 _ _ 0)) z (ix2 r c) == BitVec.ofNat 32 (0 * (16 * z.H) + c.val)) = _
  rw [keyWord_at z _ (ix2 r c) r.val (by omega) (by
      show BitVec.ofNat 32 (0 * (16 * z.H) + r.val) = _
      rw [Nat.zero_mul, Nat.zero_add]), Nat.zero_mul, Nat.zero_add]
  refine (beq_eq_decide _ _).trans (decide_eq_decide.2 ⟨fun h => ?_, fun h => by rw [h]⟩)
  have h := congrArg BitVec.toNat h
  rw [BitVec.toNat_ofNat, BitVec.toNat_ofNat] at h
  omega

/-- A sum against one row of the permutation. -/
theorem perm_sum (z : Sz) (r : Fin (16 * z.H)) (f : Fin (16 * z.H) → EReal) :
    ∑ c, perm (F := Ideal) z (ix2 r c) * f c = f ⟨keyOf z r.val, keyOf_lt z r.val r.isLt⟩ := by
  rw [Finset.sum_eq_single ⟨keyOf z r.val, keyOf_lt z r.val r.isLt⟩]
  · rw [perm_at, if_pos rfl, one_mul]
  · intro c _ hc
    rw [perm_at, if_neg fun h => hc (Fin.ext h.symm), zero_mul]
  · exact fun h => absurd (Finset.mem_univ _) h

/-- A group's keys in row order. -/
theorem permK_at (kT : FVec Ideal ⟨2, ![128, 640]⟩ .bf16) (g : GDat) (r : Fin (16 * g.sz.H)) (d : Fin 128) :
    permK kT g (ix2 r d) = kT (ix2 d ⟨g.start + keyOf g.sz r.val, by have := keyOf_lt g.sz r.val r.isLt; have := g.hstart; omega⟩) := by
  unfold permK
  rw [same_at, truncf_at]
  refine (mmT_at _ _ _ _).trans ((perm_sum g.sz r _).trans ?_)
  rw [slice_at kT _ d ⟨keyOf g.sz r.val, keyOf_lt g.sz r.val r.isLt⟩ (by omega) (by have := keyOf_lt g.sz r.val r.isLt; have := g.hstart; show g.start + keyOf g.sz r.val < 640; omega)]
  congr 2
  exact Fin.ext (Nat.zero_add _)

/-- A group's values in row order. -/
theorem permV_at (v : FVec Ideal ⟨2, ![640, 128]⟩ .bf16) (g : GDat) (z : Fin 1) (d : Fin 128) (r : Fin (16 * g.sz.H)) :
    permV v g (ix3 z d r) = v (ix2 ⟨g.start + keyOf g.sz r.val, by have := keyOf_lt g.sz r.val r.isLt; have := g.hstart; omega⟩ d) := by
  unfold permV
  rw [lead_at, transpose_at, truncf_at]
  refine (mm_at _ _ _ _).trans ((perm_sum g.sz r _).trans ?_)
  rw [slice_at v _ ⟨keyOf g.sz r.val, keyOf_lt g.sz r.val r.isLt⟩ d (by have := keyOf_lt g.sz r.val r.isLt; have := g.hstart; show g.start + keyOf g.sz r.val < 640; omega) (by omega)]
  congr 2
  exact Fin.ext (Nat.zero_add _)

/-! ## The scratch buffers -/

/-- Which group a row of the scratch buffers belongs to. -/
def gIdx (r : ℕ) : Fin 10 :=
  if r < 256 then 9 else if r < 512 then 8 else if r < 640 then 7 else if r < 768 then 6 else if r < 896 then 5
  else if r < 960 then 4 else if r < 1024 then 3 else if r < 1088 then 2 else if r < 1152 then 1 else 0

/-- The group that a row of the scratch buffers belongs to. -/
def gOf (r : ℕ) : GDat := groups.get (gIdx r)

/-- A group's rows are its own. -/
theorem gOf_row : ∀ g ∈ groups, ∀ r < 16 * g.sz.H, gOf (g.row + r) = g := by
  have h : ∀ i : Fin 10, ∀ r : Fin 256, r.val < 16 * (groups.get i).sz.H → gIdx ((groups.get i).row + r.val) = i := by decide +kernel
  intro g hg r hr
  obtain ⟨i, rfl⟩ := List.get_of_mem hg
  have hH := Sz.H_le (groups.get i).sz
  exact congrArg groups.get (h i ⟨r, by omega⟩ hr)

/-- The key that a row of the scratch buffers holds. -/
def keyAt (r : ℕ) : ℕ := (gOf r).start + keyOf (gOf r).sz (r - (gOf r).row)

/-- The key of a group's row. -/
theorem keyAt_row (g : GDat) (hg : g ∈ groups) (r : ℕ) (hr : r < 16 * g.sz.H) : keyAt (g.row + r) = g.start + keyOf g.sz r := by
  unfold keyAt
  rw [gOf_row g hg r hr, Nat.add_sub_cancel_left]

/-- The groups of the query tiles are among the ten stored. -/
theorem qtiles_groups : ∀ t ∈ qtiles, ∀ g ∈ t.g0 :: t.gs, g ∈ groups := by
  intro t ht
  simp only [qtiles, List.mem_cons, List.not_mem_nil, or_false] at ht
  rcases ht with rfl | rfl | rfl | rfl | rfl | rfl | rfl | rfl | rfl | rfl <;> simp [groups]

section
variable (arg3 : Memref sig .tc .vmem S1x2x640x128 .fp8e4m3) (harg3 : arg3.IsWhole)
    (arg4 : Memref sig .tc .vmem S1x2x4x640 .i8) (harg4 : arg4.IsWhole)
    (arg5 : Memref sig .tc .vmem S1x2x640x128 .fp8e4m3) (harg5 : arg5.IsWhole)
    (arg6 : Memref sig .tc .vmem S1x2x20x128 .i8) (harg6 : arg6.IsWhole)
    (x2 : Vec Ideal S1x2x640x128 .fp8e4m3) (x3 : Vec Ideal S1x2x4x640 .i8) (x4 : Vec Ideal S1x2x640x128 .fp8e4m3) (x5 : Vec Ideal S1x2x20x128 .i8)

/-- One head's loaded codes. -/
theorem ldKV_at (kv : ℕ) (hkv : kv < 2) (k : Fin 640) (d : Fin 128) :
    ldKV arg3 harg3 x2 kv hkv (ix4 0 0 k d) = x2 (ix4 0 ⟨kv, hkv⟩ k d) := by
  unfold ldKV
  refine (load_at arg3 harg3 x2 _ _).trans (congrArg x2 ?_)
  funext b
  apply Fin.ext
  match b with
  | ⟨0, _⟩ => rfl
  | ⟨1, _⟩ => show kv + 1 * 0 = kv; omega
  | ⟨2, _⟩ => show 0 + 1 * k.val = k.val; omega
  | ⟨3, _⟩ => show 0 + 1 * d.val = d.val; omega

/-- One head's decoded keys. -/
theorem keys_at (kv : ℕ) (hkv : kv < 2) (d : Fin 128) (k : Fin 640) :
    keysT (ldKV arg3 harg3 x2 kv hkv) (ldKS (F := Ideal) arg4 harg4 x3 kv hkv) (ix2 d k) = kval x2 x3 kv k.val d.val := by
  unfold kval
  rw [keysT_at, ldKV_at, ofNat_eq hkv, ofNat_eq k.isLt, ofNat_eq d.isLt, ofNat_eq (show d.val / 32 < 4 by omega)]
  refine congrArg (fun u : BitVec 8 => x2 (ix4 0 ⟨kv, hkv⟩ k d) * dec u) ?_
  unfold ldKS
  refine (load_at arg4 harg4 x3 _ _).trans (congrArg x3 ?_)
  funext b
  apply Fin.ext
  match b with
  | ⟨0, _⟩ => rfl
  | ⟨1, _⟩ => show kv + 1 * 0 = kv; omega
  | ⟨2, _⟩ => show 0 + 1 * (d.val / 32) = d.val / 32; omega
  | ⟨3, _⟩ => show 0 + 1 * k.val = k.val; omega

/-- One head's decoded values. -/
theorem values_at (kv : ℕ) (hkv : kv < 2) (k : Fin 640) (d : Fin 128) :
    vals (ldKV arg5 harg5 x4 kv hkv) (ldVS (F := Ideal) arg6 harg6 x5 kv hkv) (ix2 k d) = vval x4 x5 kv k.val d.val := by
  unfold vval
  rw [vals_at, ldKV_at, ofNat_eq hkv, ofNat_eq k.isLt, ofNat_eq d.isLt, ofNat_eq (show k.val / 32 < 20 by omega)]
  refine congrArg (fun u : BitVec 8 => x4 (ix4 0 ⟨kv, hkv⟩ k d) * dec u) ?_
  unfold ldVS
  refine (load_at arg6 harg6 x5 _ _).trans (congrArg x5 ?_)
  funext b
  apply Fin.ext
  match b with
  | ⟨0, _⟩ => rfl
  | ⟨1, _⟩ => show kv + 1 * 0 = kv; omega
  | ⟨2, _⟩ => show 0 + 1 * (k.val / 32) = k.val / 32; omega
  | ⟨3, _⟩ => show 0 + 1 * d.val = d.val; omega

/-- What the buffer of permuted keys holds. -/
def keyBuf : S1216x256.Idx → Elt Ideal .bf16 := fun j => kval x2 x3 ((j 1).val / 128) (keyAt (j 0).val) ((j 1).val % 128)
/-- What the buffer of permuted values holds. -/
def valBuf : S2x128x1216.Idx → Elt Ideal .bf16 := fun j => vval x4 x5 (j 0).val (keyAt (j 2).val) (j 1).val

/-- The stores of one head's keys are blocks of the buffer. -/
theorem keyStores_of (kv : ℕ) (hkv : kv < 2) : ∀ p ∈ keyStores arg3 harg3 arg4 harg4 x2 x3 kv hkv, ∀ x : p.1.shape.Idx,
    p.2 x = keyBuf x2 x3 (p.1.emb x) := by
  intro p hp
  obtain ⟨g, hg, rfl⟩ := List.mem_map.1 hp
  intro (x : (⟨2, ![16 * g.sz.H, 128]⟩ : Shape).Idx)
  have hx : x = ix2 (x 0) (x 1) := by
    funext a
    match a with
    | ⟨0, _⟩ => rfl
    | ⟨1, _⟩ => rfl
  generalize x 0 = r at hx
  generalize x 1 = d at hx
  subst hx
  have hr : r.val < 16 * g.sz.H := r.isLt
  have hd : d.val < 128 := d.isLt
  refine (permK_at _ g r d).trans ((keys_at arg3 harg3 arg4 harg4 x2 x3 kv hkv d _).trans ?_)
  show kval x2 x3 kv (g.start + keyOf g.sz r.val) d.val = kval x2 x3 ((128 * kv + 1 * d.val) / 128) (keyAt (g.row + 1 * r.val)) ((128 * kv + 1 * d.val) % 128)
  rw [Nat.one_mul, Nat.one_mul, keyAt_row g hg r.val hr, show (128 * kv + d.val) / 128 = kv by omega, show (128 * kv + d.val) % 128 = d.val by omega]

/-- The stores of one head's values are blocks of the buffer. -/
theorem valStores_of (kv : ℕ) (hkv : kv < 2) : ∀ p ∈ valStores arg5 harg5 arg6 harg6 x4 x5 kv hkv, ∀ x : p.1.shape.Idx,
    p.2 x = valBuf x4 x5 (p.1.emb x) := by
  intro p hp
  obtain ⟨g, hg, rfl⟩ := List.mem_map.1 hp
  intro (x : (⟨3, ![1, 128, 16 * g.sz.H]⟩ : Shape).Idx)
  have hx : x = ix3 (x 0) (x 1) (x 2) := by
    funext a
    match a with
    | ⟨0, _⟩ => rfl
    | ⟨1, _⟩ => rfl
    | ⟨2, _⟩ => rfl
  generalize x 0 = z at hx
  generalize x 1 = d at hx
  generalize x 2 = r at hx
  subst hx
  have hr : r.val < 16 * g.sz.H := r.isLt
  have hz : z.val = 0 := by have h : z.val < 1 := z.isLt; omega
  refine (permV_at _ g z d r).trans ((values_at arg5 harg5 arg6 harg6 x4 x5 kv hkv _ d).trans ?_)
  show vval x4 x5 kv (g.start + keyOf g.sz r.val) d.val = vval x4 x5 (kv + 1 * z.val) (keyAt (g.row + 1 * r.val)) (0 + 1 * d.val)
  rw [Nat.one_mul, Nat.one_mul, Nat.one_mul, keyAt_row g hg r.val hr, hz, Nat.zero_add, Nat.add_zero]

/-- All the stores of keys. -/
def L9 : List (View.Piece (Elt Ideal) S1216x256 .bf16) :=
  keyStores arg3 harg3 arg4 harg4 x2 x3 1 (by decide) ++ keyStores arg3 harg3 arg4 harg4 x2 x3 0 (by decide)
/-- All the stores of values. -/
def L10 : List (View.Piece (Elt Ideal) S2x128x1216 .bf16) :=
  valStores arg5 harg5 arg6 harg6 x4 x5 1 (by decide) ++ valStores arg5 harg5 arg6 harg6 x4 x5 0 (by decide)

/-- Keys loaded back. -/
theorem ldK_at (arg9 : Memref sig .tc .vmem S1216x256 .bf16) (g : GDat) (hg : g ∈ groups) (c Kc : ℕ) (hc : c + Kc ≤ 256)
    (r : Fin (16 * g.sz.H)) (e : Fin Kc) :
    ldK arg9 (L9 arg3 harg3 arg4 harg4 x2 x3) g c Kc hc (ix2 r e) = kval x2 x3 ((c + e.val) / 128) (g.start + keyOf g.sz r.val) ((c + e.val) % 128) := by
  unfold ldK
  rw [View.readCov_eq_canon']
  have hcov : ∀ kv (hkv : kv < 2), (c + e.val) / 128 = kv →
      ∃ p ∈ keyStores arg3 harg3 arg4 harg4 x2 x3 kv hkv, (Rect.unit (s := S1216x256) ![g.row, c] ![16 * g.sz.H, Kc] (inb2 g.hrow hc)).toLoadRect.idx (ix2 r e) ∈ p.1.set := by
    intro kv hkv hk
    refine ⟨_, List.mem_map_of_mem hg, (Rect.mem_set_unit (inb := inb2 (m := 1216) (n := 256) (o := g.row) (o' := 128 * kv) (a := 16 * g.sz.H) (b := 128) g.hrow (by omega))).2 fun a => ?_⟩
    match a with
    | ⟨0, _⟩ =>
      show g.row ≤ g.row + 1 * r.val ∧ g.row + 1 * r.val < g.row + 16 * g.sz.H
      have := r.isLt
      omega
    | ⟨1, _⟩ =>
      show 128 * kv ≤ c + 1 * e.val ∧ c + 1 * e.val < 128 * kv + 128
      omega
  refine (View.canon_apply_of_pieces (keyBuf x2 x3) _ (fun p hp => ?_) _ ?_).trans ?_
  · rcases List.mem_append.1 hp with hp | hp
    · exact keyStores_of arg3 harg3 arg4 harg4 x2 x3 1 _ p hp
    · exact keyStores_of arg3 harg3 arg4 harg4 x2 x3 0 _ p hp
  · have he := e.isLt
    have : (c + e.val) / 128 = 1 ∨ (c + e.val) / 128 = 0 := by omega
    rcases this with h | h
    · obtain ⟨p, hp, h'⟩ := hcov 1 (by decide) h
      exact ⟨p, List.mem_append_left _ hp, h'⟩
    · obtain ⟨p, hp, h'⟩ := hcov 0 (by decide) h
      exact ⟨p, List.mem_append_right _ hp, h'⟩
  · show kval x2 x3 ((c + 1 * e.val) / 128) (keyAt (g.row + 1 * r.val)) ((c + 1 * e.val) % 128) = _
    rw [Nat.one_mul, Nat.one_mul, keyAt_row g hg r.val r.isLt]

/-- Values loaded back. -/
theorem ldV_at (arg10 : Memref sig .tc .vmem S2x128x1216 .bf16) (g : GDat) (hg : g ∈ groups) (kv : ℕ) (hkv : kv < 2)
    (d : Fin 128) (r : Fin (16 * g.sz.H)) :
    ldV arg10 (L10 arg5 harg5 arg6 harg6 x4 x5) g kv hkv (ix3 0 d r) = vval x4 x5 kv (g.start + keyOf g.sz r.val) d.val := by
  unfold ldV
  rw [View.readCov_eq_canon']
  have hcov : ∀ kv' (hkv' : kv' < 2), kv = kv' →
      ∃ p ∈ valStores arg5 harg5 arg6 harg6 x4 x5 kv' hkv', (Rect.unit (s := S2x128x1216) ![kv, 0, g.row] ![1, 128, 16 * g.sz.H] (inb3 hkv (by decide) g.hrow)).toLoadRect.idx (ix3 0 d r) ∈ p.1.set := by
    intro kv' hkv' hk
    refine ⟨_, List.mem_map_of_mem hg, (Rect.mem_set_unit (inb := inb3 hkv' (by decide) g.hrow)).2 fun a => ?_⟩
    match a with
    | ⟨0, _⟩ =>
      show kv' ≤ kv + 1 * 0 ∧ kv + 1 * 0 < kv' + 1
      omega
    | ⟨1, _⟩ =>
      show 0 ≤ 0 + 1 * d.val ∧ 0 + 1 * d.val < 0 + 128
      omega
    | ⟨2, _⟩ =>
      show g.row ≤ g.row + 1 * r.val ∧ g.row + 1 * r.val < g.row + 16 * g.sz.H
      have := r.isLt
      omega
  refine (View.canon_apply_of_pieces (valBuf x4 x5) _ (fun p hp => ?_) _ ?_).trans ?_
  · rcases List.mem_append.1 hp with hp | hp
    · exact valStores_of arg5 harg5 arg6 harg6 x4 x5 1 _ p hp
    · exact valStores_of arg5 harg5 arg6 harg6 x4 x5 0 _ p hp
  · have : kv = 1 ∨ kv = 0 := by omega
    rcases this with h | h
    · obtain ⟨p, hp, h'⟩ := hcov 1 (by decide) h
      exact ⟨p, List.mem_append_left _ hp, h'⟩
    · obtain ⟨p, hp, h'⟩ := hcov 0 (by decide) h
      exact ⟨p, List.mem_append_right _ hp, h'⟩
  · show vval x4 x5 (kv + 1 * 0) (keyAt (g.row + 1 * r.val)) (0 + 1 * d.val) = _
    rw [Nat.mul_zero, Nat.add_zero, Nat.one_mul, Nat.one_mul, Nat.zero_add, keyAt_row g hg r.val r.isLt]

end

end Cert.Attn
-- ==== Proof.Store.lean ====
/- Every store of a query tile writes its block of the two results. -/
module

public import proofs.«01_k».proof.Proof.Perm

@[expose] public section

noncomputable section

namespace Cert.Attn

open Idealize.ShloMosaic Idealize.SL.Sem Cert.KernelIdeal

/-! ## The two results of one batch element -/

section
variable (x0 : Vec Ideal S1x14x640x128 .fp8e4m3) (x1 : Vec Ideal S1x14x4x640 .i8)
    (x2 : Vec Ideal S1x2x640x128 .fp8e4m3) (x3 : Vec Ideal S1x2x4x640 .i8) (x4 : Vec Ideal S1x2x640x128 .fp8e4m3) (x5 : Vec Ideal S1x2x20x128 .i8)

/-- The scores of one head's query. -/
def rowScores (h p : ℕ) : ℕ → EReal := scoreOf (kval x2 x3 (h / 7)) (qval x0 x1 h p) p
/-- The second result: head, position. -/
def lseVal (h p : ℕ) : EReal := lse (rowScores x0 x1 x2 x3 h p) p
/-- The first result: head, position, feature. -/
def outVal (h p d : ℕ) : EReal := mixed (rowScores x0 x1 x2 x3 h p) fun k => vval x4 x5 (h / 7) k d

/-- The block of the second result. -/
def lseBuf : S1x14x640.Idx → Elt Ideal .f32 := fun j => lseVal x0 x1 x2 x3 (j 1).val (j 2).val
/-- The block of the first result. -/
def outBuf : S1x640x1792.Idx → Elt Ideal .bf16 := fun j => outVal x0 x1 x2 x3 x4 x5 ((j 2).val / 128) (j 1).val ((j 2).val % 128)

/-! ## One store -/

variable {L : ℕ}

/-- A store of one head's logarithms writes its block. -/
theorem lsePiece_of (row : FVec Ideal ⟨2, ![1, L]⟩ .f32) (i hb n : ℕ) (hi : i < 10) (hh : hb + n < 14) (hn : 64 * n + 64 ≤ L)
    (H : ∀ l : Fin L, row (ix2 0 l) = lseVal x0 x1 x2 x3 (hb + l.val / 64) (64 * i + l.val % 64)) (x) :
    (lsePiece row i (hb + n) n hi hh hn).2 x = lseBuf x0 x1 x2 x3 ((lsePiece row i (hb + n) n hi hh hn).1.emb x) := by
  have key : ∀ (z : Fin 1) (y : Fin 1) (a : Fin 64), lseOf row n hn (ix3 z y a) = lseVal x0 x1 x2 x3 (hb + n + 1 * y.val) (64 * i + 1 * a.val) := by
    intro z y a
    have hy : y.val = 0 := by omega
    unfold lseOf
    rw [lead_at, slice_at row _ y a (by omega) (by omega)]
    have e : ∀ (h1 : 0 + y.val < 1) (h2 : 64 * n + a.val < L), row (ix2 ⟨0 + y.val, h1⟩ ⟨64 * n + a.val, h2⟩) = row (ix2 0 ⟨64 * n + a.val, h2⟩) := fun h1 h2 => by
      congr 2
      exact Fin.ext (by omega)
    rw [e, H]
    show lseVal x0 x1 x2 x3 (hb + (64 * n + a.val) / 64) (64 * i + (64 * n + a.val) % 64) = _
    rw [show (64 * n + a.val) / 64 = n by omega, show (64 * n + a.val) % 64 = a.val by omega, hy, Nat.mul_zero, Nat.add_zero, Nat.one_mul]
  revert x
  intro (x : (⟨3, ![1, 1, 64]⟩ : Shape).Idx)
  have hx : x = ix3 (x 0) (x 1) (x 2) := by
    funext a
    match a with
    | ⟨0, _⟩ => rfl
    | ⟨1, _⟩ => rfl
    | ⟨2, _⟩ => rfl
  exact (congrArg (lseOf row n hn) hx).trans (key (x 0) (x 1) (x 2))

/-- A store of one head's output writes its block. -/
theorem outPiece_of (o : FVec Ideal ⟨2, ![128, L]⟩ .f32) (i hb n : ℕ) (hi : i < 10) (hh : hb + n < 14) (hn : 64 * n + 64 ≤ L)
    (H : ∀ (d : Fin 128) (l : Fin L), o (ix2 d l) = outVal x0 x1 x2 x3 x4 x5 (hb + l.val / 64) (64 * i + l.val % 64) d.val) (x) :
    (outPiece o i (hb + n) n hi hh hn).2 x = outBuf x0 x1 x2 x3 x4 x5 ((outPiece o i (hb + n) n hi hh hn).1.emb x) := by
  have key : ∀ (z : Fin 1) (a : Fin 64) (d : Fin 128), outOf o n hn (ix3 z a d) = outVal x0 x1 x2 x3 x4 x5 ((128 * (hb + n) + 1 * d.val) / 128) (64 * i + 1 * a.val) ((128 * (hb + n) + 1 * d.val) % 128) := by
    intro z a d
    unfold outOf
    rw [lead_at, slice_at _ _ a d (by omega) (by omega), transpose_at, truncf_at, H]
    show outVal x0 x1 x2 x3 x4 x5 (hb + (64 * n + a.val) / 64) (64 * i + (64 * n + a.val) % 64) (0 + d.val) = _
    rw [show (64 * n + a.val) / 64 = n by omega, show (64 * n + a.val) % 64 = a.val by omega, Nat.zero_add, Nat.one_mul, Nat.one_mul,
      show (128 * (hb + n) + d.val) / 128 = hb + n by omega, show (128 * (hb + n) + d.val) % 128 = d.val by omega]
  revert x
  intro (x : (⟨3, ![1, 64, 128]⟩ : Shape).Idx)
  have hx : x = ix3 (x 0) (x 1) (x 2) := by
    funext a
    match a with
    | ⟨0, _⟩ => rfl
    | ⟨1, _⟩ => rfl
    | ⟨2, _⟩ => rfl
  exact (congrArg (outOf o n hn) hx).trans (key (x 0) (x 1) (x 2))

/-- The stores of four heads' logarithms write their blocks. -/
theorem lse4_of (row : FVec Ideal ⟨2, ![1, 256]⟩ .f32) (i hb : ℕ) (hi : i < 10) (hh : hb + 3 < 14)
    (H : ∀ l : Fin 256, row (ix2 0 l) = lseVal x0 x1 x2 x3 (hb + l.val / 64) (64 * i + l.val % 64)) :
    ∀ p ∈ lse4 row i hb hi hh, ∀ x : p.1.shape.Idx, p.2 x = lseBuf x0 x1 x2 x3 (p.1.emb x) := by
  intro p hp
  simp only [lse4, List.mem_cons, List.not_mem_nil, or_false] at hp
  rcases hp with rfl | rfl | rfl | rfl
  · exact lsePiece_of x0 x1 x2 x3 row i hb 3 hi _ _ H
  · exact lsePiece_of x0 x1 x2 x3 row i hb 2 hi _ _ H
  · exact lsePiece_of x0 x1 x2 x3 row i hb 1 hi _ _ H
  · exact lsePiece_of x0 x1 x2 x3 row i hb 0 hi _ _ H

/-- The stores of two heads' logarithms write their blocks. -/
theorem lse2_of (row : FVec Ideal ⟨2, ![1, 128]⟩ .f32) (i hb : ℕ) (hi : i < 10) (hh : hb + 1 < 14)
    (H : ∀ l : Fin 128, row (ix2 0 l) = lseVal x0 x1 x2 x3 (hb + l.val / 64) (64 * i + l.val % 64)) :
    ∀ p ∈ lse2 row i hb hi hh, ∀ x : p.1.shape.Idx, p.2 x = lseBuf x0 x1 x2 x3 (p.1.emb x) := by
  intro p hp
  simp only [lse2, List.mem_cons, List.not_mem_nil, or_false] at hp
  rcases hp with rfl | rfl
  · exact lsePiece_of x0 x1 x2 x3 row i hb 1 hi _ _ H
  · exact lsePiece_of x0 x1 x2 x3 row i hb 0 hi _ _ H

/-- The stores of four heads' outputs write their blocks. -/
theorem out4_of (o : FVec Ideal ⟨2, ![128, 256]⟩ .f32) (i hb : ℕ) (hi : i < 10) (hh : hb + 3 < 14)
    (H : ∀ (d : Fin 128) (l : Fin 256), o (ix2 d l) = outVal x0 x1 x2 x3 x4 x5 (hb + l.val / 64) (64 * i + l.val % 64) d.val) :
    ∀ p ∈ out4 o i hb hi hh, ∀ x : p.1.shape.Idx, p.2 x = outBuf x0 x1 x2 x3 x4 x5 (p.1.emb x) := by
  intro p hp
  simp only [out4, List.mem_cons, List.not_mem_nil, or_false] at hp
  rcases hp with rfl | rfl | rfl | rfl
  · exact outPiece_of x0 x1 x2 x3 x4 x5 o i hb 3 hi _ _ H
  · exact outPiece_of x0 x1 x2 x3 x4 x5 o i hb 2 hi _ _ H
  · exact outPiece_of x0 x1 x2 x3 x4 x5 o i hb 1 hi _ _ H
  · exact outPiece_of x0 x1 x2 x3 x4 x5 o i hb 0 hi _ _ H

/-- The stores of two heads' outputs write their blocks. -/
theorem out2_of (o : FVec Ideal ⟨2, ![128, 128]⟩ .f32) (i hb : ℕ) (hi : i < 10) (hh : hb + 1 < 14)
    (H : ∀ (d : Fin 128) (l : Fin 128), o (ix2 d l) = outVal x0 x1 x2 x3 x4 x5 (hb + l.val / 64) (64 * i + l.val % 64) d.val) :
    ∀ p ∈ out2 o i hb hi hh, ∀ x : p.1.shape.Idx, p.2 x = outBuf x0 x1 x2 x3 x4 x5 (p.1.emb x) := by
  intro p hp
  simp only [out2, List.mem_cons, List.not_mem_nil, or_false] at hp
  rcases hp with rfl | rfl
  · exact outPiece_of x0 x1 x2 x3 x4 x5 o i hb 1 hi _ _ H
  · exact outPiece_of x0 x1 x2 x3 x4 x5 o i hb 0 hi _ _ H

end

/-! ## The lanes of a tile -/

section
variable (arg1 : Memref sig .tc .vmem S1x14x640x128 .fp8e4m3) (harg1 : arg1.IsWhole)
    (arg2 : Memref sig .tc .vmem S1x14x4x640 .i8) (harg2 : arg2.IsWhole)
    (arg3 : Memref sig .tc .vmem S1x2x640x128 .fp8e4m3) (harg3 : arg3.IsWhole)
    (arg4 : Memref sig .tc .vmem S1x2x4x640 .i8) (harg4 : arg4.IsWhole)
    (arg5 : Memref sig .tc .vmem S1x2x640x128 .fp8e4m3) (harg5 : arg5.IsWhole)
    (arg6 : Memref sig .tc .vmem S1x2x20x128 .i8) (harg6 : arg6.IsWhole)
    (arg9 : Memref sig .tc .vmem S1216x256 .bf16) (arg10 : Memref sig .tc .vmem S2x128x1216 .bf16)
    (x0 : Vec Ideal S1x14x640x128 .fp8e4m3) (x1 : Vec Ideal S1x14x4x640 .i8)
    (x2 : Vec Ideal S1x2x640x128 .fp8e4m3) (x3 : Vec Ideal S1x2x4x640 .i8) (x4 : Vec Ideal S1x2x640x128 .fp8e4m3) (x5 : Vec Ideal S1x2x20x128 .i8)
    (t : QTile) (ht : t ∈ qtiles)

include ht in
/-- A lane of a tile of one key-value head, from its queries. -/
theorem laneOf {L : ℕ} (hL : L ≤ 256) (q : FVec Ideal ⟨2, ![128, L]⟩ .bf16) (kv : ℕ) (hkv : kv < 2) (l : Fin L) (Q : ℕ → EReal)
    (hq : ∀ d : Fin 128, q (ix2 d l) = Q d.val) :
    LaneOf q (64 * t.i) (grp arg9 arg10 (L9 arg3 harg3 arg4 harg4 x2 x3) (L10 arg5 harg5 arg6 harg6 x4 x5) kv hkv) t.g0 t.gs l (kval x2 x3 kv) Q where
  hL := hL
  hq := by have := t.hi; omega
  hG := fun _ => rfl
  hc := (qtiles_ok t ht).1
  hd := (qtiles_ok t ht).2
  hk := fun g hg r => by
    rw [Finset.sum_range]
    refine Finset.sum_congr rfl fun d _ => ?_
    rw [hq]
    refine congrArg (fun u : EReal => u * Q d.val) ?_
    refine (ldK_at arg3 harg3 arg4 harg4 x2 x3 arg9 g (qtiles_groups t ht g hg) (128 * kv) 128 (by omega) r d).trans ?_
    rw [show (128 * kv + d.val) / 128 = kv by omega, show (128 * kv + d.val) % 128 = d.val by omega]

include ht in
/-- A lane of the mixed tile, from its queries. -/
theorem laneOfM (q : FVec Ideal ⟨2, ![128, 256]⟩ .bf16) (l : Fin 256) (Q : ℕ → EReal) (hq : ∀ d : Fin 128, q (ix2 d l) = Q d.val) :
    LaneOf (mixedQ q) (64 * t.i) (grpM arg9 arg10 (L9 arg3 harg3 arg4 harg4 x2 x3) (L10 arg5 harg5 arg6 harg6 x4 x5)) t.g0 t.gs l (kval x2 x3 ((4 + l.val / 64) / 7)) Q where
  hL := le_rfl
  hq := by have := t.hi; omega
  hG := fun _ => rfl
  hc := (qtiles_ok t ht).1
  hd := (qtiles_ok t ht).2
  hk := fun g hg r => by
    refine (Finset.sum_congr rfl fun e _ => congrArg (fun u : EReal => u * mixedQ q (ix2 e l))
      (ldK_at arg3 harg3 arg4 harg4 x2 x3 arg9 g (qtiles_groups t ht g hg) 0 256 (by decide) r e)).trans ?_
    refine (mixedQ_sum q (fun e => kval x2 x3 ((0 + e) / 128) (g.start + keyOf g.sz r.val) ((0 + e) % 128)) l).trans ?_
    rw [Finset.sum_range]
    refine Finset.sum_congr rfl fun d _ => ?_
    rw [hq]
    have e1 : (0 + (128 * ((4 + l.val / 64) / 7) + d.val)) / 128 = (4 + l.val / 64) / 7 := by omega
    have e2 : (0 + (128 * ((4 + l.val / 64) / 7) + d.val)) % 128 = d.val := by omega
    show kval x2 x3 ((0 + (128 * ((4 + l.val / 64) / 7) + d.val)) / 128) (g.start + keyOf g.sz r.val)
      ((0 + (128 * ((4 + l.val / 64) / 7) + d.val)) % 128) * Q d.val = _
    rw [e1, e2]

include ht in
/-- A tile's logarithms. -/
theorem tile_lse {L : ℕ} (hL : L ≤ 256) (q : FVec Ideal ⟨2, ![128, L]⟩ .bf16) (kv : ℕ) (hkv : kv < 2) (hb : ℕ)
    (hq : ∀ (d : Fin 128) (l : Fin L), q (ix2 d l) = qval x0 x1 (hb + l.val / 64) (64 * t.i + l.val % 64) d.val)
    (hkvb : ∀ l < L, (hb + l / 64) / 7 = kv) (l : Fin L) :
    lseRow q (64 * t.i) (grp arg9 arg10 (L9 arg3 harg3 arg4 harg4 x2 x3) (L10 arg5 harg5 arg6 harg6 x4 x5) kv hkv t.g0) (t.gs.map (grp arg9 arg10 (L9 arg3 harg3 arg4 harg4 x2 x3) (L10 arg5 harg5 arg6 harg6 x4 x5) kv hkv)) (ix2 0 l)
      = lseVal x0 x1 x2 x3 (hb + l.val / 64) (64 * t.i + l.val % 64) := by
  rw [(laneOf arg3 harg3 arg4 harg4 arg5 harg5 arg6 harg6 arg9 arg10 x2 x3 x4 x5 t ht hL q kv hkv l _ fun d => hq d l).lse, lseVal, rowScores, hkvb l.val l.isLt]

include ht in
/-- A tile's outputs. -/
theorem tile_out {L : ℕ} (hL : L ≤ 256) (q : FVec Ideal ⟨2, ![128, L]⟩ .bf16) (kv : ℕ) (hkv : kv < 2) (hb : ℕ)
    (hq : ∀ (d : Fin 128) (l : Fin L), q (ix2 d l) = qval x0 x1 (hb + l.val / 64) (64 * t.i + l.val % 64) d.val)
    (hkvb : ∀ l < L, (hb + l / 64) / 7 = kv) (d : Fin 128) (l : Fin L) :
    tout q (64 * t.i) (grp arg9 arg10 (L9 arg3 harg3 arg4 harg4 x2 x3) (L10 arg5 harg5 arg6 harg6 x4 x5) kv hkv t.g0) (t.gs.map (grp arg9 arg10 (L9 arg3 harg3 arg4 harg4 x2 x3) (L10 arg5 harg5 arg6 harg6 x4 x5) kv hkv)) (ix2 d l)
      = outVal x0 x1 x2 x3 x4 x5 (hb + l.val / 64) (64 * t.i + l.val % 64) d.val := by
  rw [(laneOf arg3 harg3 arg4 harg4 arg5 harg5 arg6 harg6 arg9 arg10 x2 x3 x4 x5 t ht hL q kv hkv l _ fun d => hq d l).out (fun k => vval x4 x5 kv k d.val) d
    fun g hg r => ldV_at arg5 harg5 arg6 harg6 x4 x5 arg10 g (qtiles_groups t ht g hg) kv hkv d r, outVal, rowScores, hkvb l.val l.isLt]

include ht in
/-- The mixed tile's logarithms. -/
theorem mixed_lse (q : FVec Ideal ⟨2, ![128, 256]⟩ .bf16)
    (hq : ∀ (d : Fin 128) (l : Fin 256), q (ix2 d l) = qval x0 x1 (4 + l.val / 64) (64 * t.i + l.val % 64) d.val) (l : Fin 256) :
    lseRow (mixedQ q) (64 * t.i) (grpM arg9 arg10 (L9 arg3 harg3 arg4 harg4 x2 x3) (L10 arg5 harg5 arg6 harg6 x4 x5) t.g0) (t.gs.map (grpM arg9 arg10 (L9 arg3 harg3 arg4 harg4 x2 x3) (L10 arg5 harg5 arg6 harg6 x4 x5))) (ix2 0 l)
      = lseVal x0 x1 x2 x3 (4 + l.val / 64) (64 * t.i + l.val % 64) := by
  rw [(laneOfM arg3 harg3 arg4 harg4 arg5 harg5 arg6 harg6 arg9 arg10 x2 x3 x4 x5 t ht q l _ fun d => hq d l).lse, lseVal, rowScores]

/-- A comparison of a small lane with 64. -/
theorem lt64_at (d l : Fin 128) :
    cmpi .slt (iota .tc ⟨2, ![128, 128]⟩ 32 [1] (iota_ok2 _ _ 1)) (broadcast _ 64#32) (ix2 d l) = BitVec.ofBool (decide (l.val < 64)) := by
  have h : ∀ l : Fin 128, (BitVec.ofNat 32 l.val).slt 64#32 = decide (l.val < 64) := by decide +kernel
  show BitVec.ofBool ((BitVec.ofNat 32 (0 * 128 + l.val)).slt 64#32) = _
  rw [Nat.zero_mul, Nat.zero_add, h l]

include ht in
/-- The mixed tile's outputs. -/
theorem mixed_out (q : FVec Ideal ⟨2, ![128, 256]⟩ .bf16)
    (hq : ∀ (d : Fin 128) (l : Fin 256), q (ix2 d l) = qval x0 x1 (4 + l.val / 64) (64 * t.i + l.val % 64) d.val) (d : Fin 128) (l : Fin 256) :
    toutMixed (mixedQ q) (64 * t.i) (grpM arg9 arg10 (L9 arg3 harg3 arg4 harg4 x2 x3) (L10 arg5 harg5 arg6 harg6 x4 x5) t.g0) (t.gs.map (grpM arg9 arg10 (L9 arg3 harg3 arg4 harg4 x2 x3) (L10 arg5 harg5 arg6 harg6 x4 x5))) (ix2 d l)
      = outVal x0 x1 x2 x3 x4 x5 (4 + l.val / 64) (64 * t.i + l.val % 64) d.val := by
  have lane := fun l : Fin 256 => laneOfM arg3 harg3 arg4 harg4 arg5 harg5 arg6 harg6 arg9 arg10 x2 x3 x4 x5 t ht q l _ fun d => hq d l
  have lo : ∀ l : Fin 256, l.val < 192 → tout (mixedQ q) (64 * t.i) (grpM arg9 arg10 (L9 arg3 harg3 arg4 harg4 x2 x3) (L10 arg5 harg5 arg6 harg6 x4 x5) t.g0) (t.gs.map (grpM arg9 arg10 (L9 arg3 harg3 arg4 harg4 x2 x3) (L10 arg5 harg5 arg6 harg6 x4 x5))) (ix2 d l)
      = outVal x0 x1 x2 x3 x4 x5 (4 + l.val / 64) (64 * t.i + l.val % 64) d.val := fun l hl => by
    rw [(lane l).out (fun k => vval x4 x5 0 k d.val) d
      fun g hg r => ldV_at arg5 harg5 arg6 harg6 x4 x5 arg10 g (qtiles_groups t ht g hg) 0 (by decide) d r, outVal, rowScores,
      show (4 + l.val / 64) / 7 = 0 by omega]
  unfold toutMixed
  by_cases h1 : l.val < 128
  · refine (concatenate_pair_apply_left (t := ⟨2, ![128, 256]⟩) 1 _ _ cat_out _ rfl (ix2 d ⟨l.val, h1⟩) fun b => ?_).trans ?_
    · match b with
      | ⟨0, _⟩ => rfl
      | ⟨1, _⟩ => rfl
    · rw [slice_at _ _ d ⟨l.val, h1⟩ (by omega) (by show 0 + l.val < 256; omega)]
      refine (congrArg _ ?_).trans (lo l (by omega))
      congr 1
      · exact Fin.ext (Nat.zero_add _)
      · exact Fin.ext (Nat.zero_add _)
  · have hl := l.isLt
    refine (concatenate_pair_apply_right (t := ⟨2, ![128, 256]⟩) 1 _ _ cat_out _ rfl rfl (ix2 d ⟨l.val - 128, by omega⟩) (fun b hb => ?_) ?_).trans ?_
    · match b with
      | ⟨0, _⟩ => rfl
      | ⟨1, _⟩ => exact absurd rfl hb
    · show l.val - 128 + 128 = l.val
      omega
    · show Scalar.select (cmpi .slt (iota .tc ⟨2, ![128, 128]⟩ 32 [1] (iota_ok2 _ _ 1)) (broadcast _ 64#32) (ix2 d ⟨l.val - 128, _⟩)) _ _ = _
      rw [lt64_at]
      by_cases h2 : l.val < 192
      · rw [decide_eq_true (show l.val - 128 < 64 by omega)]
        refine (slice_at (tout (mixedQ q) (64 * t.i) (grpM arg9 arg10 (L9 arg3 harg3 arg4 harg4 x2 x3) (L10 arg5 harg5 arg6 harg6 x4 x5) t.g0) (t.gs.map (grpM arg9 arg10 (L9 arg3 harg3 arg4 harg4 x2 x3) (L10 arg5 harg5 arg6 harg6 x4 x5)))) (slices_ok (by decide) (by decide)) d ⟨l.val - 128, _⟩ (by omega) (by show 128 + (l.val - 128) < 256; omega)).trans ?_
        refine (congrArg _ ?_).trans (lo l h2)
        congr 1
        · exact Fin.ext (Nat.zero_add _)
        · exact Fin.ext (by show 128 + (l.val - 128) = l.val; omega)
      · rw [decide_eq_false (show ¬ l.val - 128 < 64 by omega)]
        have hl' : 128 + (l.val - 128) = l.val := by omega
        have o := lane ⟨128 + (⟨l.val - 128, by omega⟩ : Fin 128).val, by omega⟩
        refine (LaneOf.out' ⟨l.val - 128, by omega⟩ o (fun k => vval x4 x5 1 k d.val) d
          fun g hg r => ldV_at arg5 harg5 arg6 harg6 x4 x5 arg10 g (qtiles_groups t ht g hg) 1 (by decide) d r).trans ?_
        show mixed (scoreOf (kval x2 x3 ((4 + (128 + (l.val - 128)) / 64) / 7)) (qval x0 x1 (4 + (128 + (l.val - 128)) / 64) (64 * t.i + (128 + (l.val - 128)) % 64)) (64 * t.i + (128 + (l.val - 128)) % 64)) _ = _
        rw [hl', outVal, rowScores, show (4 + l.val / 64) / 7 = 1 by omega]

include ht in
/-- Every store of logarithms of a tile writes its block. -/
theorem lseStores_of : ∀ p ∈ lseStores arg1 harg1 arg2 harg2 arg9 arg10 x0 x1 (L9 arg3 harg3 arg4 harg4 x2 x3) (L10 arg5 harg5 arg6 harg6 x4 x5) t, ∀ x : p.1.shape.Idx, p.2 x = lseBuf x0 x1 x2 x3 (p.1.emb x) := by
  intro p hp
  unfold lseStores at hp
  simp only [List.mem_append] at hp
  rcases hp with ((hp | hp) | hp) | hp
  · exact lse2_of x0 x1 x2 x3 _ _ _ _ _ (tile_lse arg3 harg3 arg4 harg4 arg5 harg5 arg6 harg6 arg9 arg10 x0 x1 x2 x3 x4 x5 t ht (by decide) _ 1 (by decide) 12
      (q2_at arg1 harg1 arg2 harg2 x0 x1 t.i 12 t.hi (by decide)) (fun l hl => by omega)) p hp
  · exact lse4_of x0 x1 x2 x3 _ _ _ _ _ (tile_lse arg3 harg3 arg4 harg4 arg5 harg5 arg6 harg6 arg9 arg10 x0 x1 x2 x3 x4 x5 t ht (by decide) _ 1 (by decide) 8
      (q4_at arg1 harg1 arg2 harg2 x0 x1 t.i 8 t.hi (by decide)) (fun l hl => by omega)) p hp
  · exact lse4_of x0 x1 x2 x3 _ _ _ _ _ (mixed_lse arg3 harg3 arg4 harg4 arg5 harg5 arg6 harg6 arg9 arg10 x0 x1 x2 x3 x4 x5 t ht _
      (q4_at arg1 harg1 arg2 harg2 x0 x1 t.i 4 t.hi (by decide))) p hp
  · exact lse4_of x0 x1 x2 x3 _ _ _ _ _ (tile_lse arg3 harg3 arg4 harg4 arg5 harg5 arg6 harg6 arg9 arg10 x0 x1 x2 x3 x4 x5 t ht (by decide) _ 0 (by decide) 0
      (q4_at arg1 harg1 arg2 harg2 x0 x1 t.i 0 t.hi (by decide)) (fun l hl => by omega)) p hp

include ht in
/-- Every store of outputs of a tile writes its block. -/
theorem outStores_of : ∀ p ∈ outStores arg1 harg1 arg2 harg2 arg9 arg10 x0 x1 (L9 arg3 harg3 arg4 harg4 x2 x3) (L10 arg5 harg5 arg6 harg6 x4 x5) t, ∀ x : p.1.shape.Idx,
    p.2 x = outBuf x0 x1 x2 x3 x4 x5 (p.1.emb x) := by
  intro p hp
  unfold outStores at hp
  simp only [List.mem_append] at hp
  rcases hp with ((hp | hp) | hp) | hp
  · exact out2_of x0 x1 x2 x3 x4 x5 _ _ _ _ _ (tile_out arg3 harg3 arg4 harg4 arg5 harg5 arg6 harg6 arg9 arg10 x0 x1 x2 x3 x4 x5 t ht (by decide) _ 1 (by decide) 12
      (q2_at arg1 harg1 arg2 harg2 x0 x1 t.i 12 t.hi (by decide)) (fun l hl => by omega)) p hp
  · exact out4_of x0 x1 x2 x3 x4 x5 _ _ _ _ _ (tile_out arg3 harg3 arg4 harg4 arg5 harg5 arg6 harg6 arg9 arg10 x0 x1 x2 x3 x4 x5 t ht (by decide) _ 1 (by decide) 8
      (q4_at arg1 harg1 arg2 harg2 x0 x1 t.i 8 t.hi (by decide)) (fun l hl => by omega)) p hp
  · exact out4_of x0 x1 x2 x3 x4 x5 _ _ _ _ _ (mixed_out arg3 harg3 arg4 harg4 arg5 harg5 arg6 harg6 arg9 arg10 x0 x1 x2 x3 x4 x5 t ht _
      (q4_at arg1 harg1 arg2 harg2 x0 x1 t.i 4 t.hi (by decide))) p hp
  · exact out4_of x0 x1 x2 x3 x4 x5 _ _ _ _ _ (tile_out arg3 harg3 arg4 harg4 arg5 harg5 arg6 harg6 arg9 arg10 x0 x1 x2 x3 x4 x5 t ht (by decide) _ 0 (by decide) 0
      (q4_at arg1 harg1 arg2 harg2 x0 x1 t.i 0 t.hi (by decide)) (fun l hl => by omega)) p hp

end

end Cert.Attn
-- ==== Proof.Block.lean ====
/- What one grid point leaves in the two outputs' blocks. -/
module

public import proofs.«01_k».proof.Proof.Pieces
public import proofs.«01_k».proof.Proof.Store
public import Idealize.ShloMosaic.Lib.Pipeline.ValueKit
public import Idealize.ShloMosaic.Lib.Pipeline.ReadBack

@[expose] public section

set_option maxRecDepth 65536

noncomputable section

namespace Cert.Attn

open Idealize.ShloMosaic Idealize.SL.Sem Cert.KernelIdeal Cert.KernelIdeal.Gen

variable (c : Dev nD) (i : grid0.Coords) (arg1 : Memref sig .tc .vmem S1x14x640x128 .fp8e4m3) (harg1 : arg1.IsWhole) (arg2 : Memref sig .tc .vmem S1x14x4x640 .i8) (harg2 : arg2.IsWhole) (arg3 : Memref sig .tc .vmem S1x2x640x128 .fp8e4m3) (harg3 : arg3.IsWhole) (arg4 : Memref sig .tc .vmem S1x2x4x640 .i8) (harg4 : arg4.IsWhole) (arg5 : Memref sig .tc .vmem S1x2x640x128 .fp8e4m3) (harg5 : arg5.IsWhole) (arg6 : Memref sig .tc .vmem S1x2x20x128 .i8) (harg6 : arg6.IsWhole) (arg7 : Memref sig .tc .vmem S1x640x1792 .bf16) (harg7 : arg7.IsWhole) (arg8 : Memref sig .tc .vmem S1x14x640 .f32) (harg8 : arg8.IsWhole) (arg9 : Memref sig .tc .vmem S1216x256 .bf16) (harg9 : arg9.IsWhole) (arg10 : Memref sig .tc .vmem S2x128x1216 .bf16) (harg10 : arg10.IsWhole)
    (x0 : Vec Ideal S1x14x640x128 .fp8e4m3) (x1 : Vec Ideal S1x14x4x640 .i8) (x2 : Vec Ideal S1x2x640x128 .fp8e4m3) (x3 : Vec Ideal S1x2x4x640 .i8) (x4 : Vec Ideal S1x2x640x128 .fp8e4m3) (x5 : Vec Ideal S1x2x20x128 .i8)

/-- The second result's block. -/
theorem out7_eq : out0_A_7 (F := Ideal) c i arg1 harg1 arg2 harg2 arg3 harg3 arg4 harg4 arg5 harg5 arg6 harg6 arg7 harg7 arg8 harg8 arg9 harg9 arg10 harg10 x0 x1 x2 x3 x4 x5
    = lseBuf x0 x1 x2 x3 := by
  unfold out0_A_7
  have hc := cover0_A_7 (F := Ideal) c i arg1 harg1 arg2 harg2 arg3 harg3 arg4 harg4 arg5 harg5 arg6 harg6 arg7 harg7 arg8 harg8 arg9 harg9 arg10 harg10 x0 x1 x2 x3 x4 x5
  rw [View.read_writes_eq_canon _ _ _ hc]
  rw [lse_pieces, key_pieces, val_pieces] at hc ⊢
  funext y
  refine View.canon_apply_of_pieces (lseBuf x0 x1 x2 x3) _ (fun p hp => ?_) y (hc y)
  obtain ⟨t, ht, hp⟩ := List.mem_flatMap.1 hp
  exact lseStores_of arg1 harg1 arg2 harg2 arg3 harg3 arg4 harg4 arg5 harg5 arg6 harg6 arg9 arg10 x0 x1 x2 x3 x4 x5 t (List.mem_reverse.1 ht) p hp

/-- The first result's block. -/
theorem out6_eq : out0_A_6 (F := Ideal) c i arg1 harg1 arg2 harg2 arg3 harg3 arg4 harg4 arg5 harg5 arg6 harg6 arg7 harg7 arg8 harg8 arg9 harg9 arg10 harg10 x0 x1 x2 x3 x4 x5
    = outBuf x0 x1 x2 x3 x4 x5 := by
  unfold out0_A_6
  have hc := cover0_A_6 (F := Ideal) c i arg1 harg1 arg2 harg2 arg3 harg3 arg4 harg4 arg5 harg5 arg6 harg6 arg7 harg7 arg8 harg8 arg9 harg9 arg10 harg10 x0 x1 x2 x3 x4 x5
  rw [View.read_writes_eq_canon _ _ _ hc]
  rw [out_pieces, key_pieces, val_pieces] at hc ⊢
  funext y
  refine View.canon_apply_of_pieces (outBuf x0 x1 x2 x3 x4 x5) _ (fun p hp => ?_) y (hc y)
  obtain ⟨t, ht, hp⟩ := List.mem_flatMap.1 hp
  exact outStores_of arg1 harg1 arg2 harg2 arg3 harg3 arg4 harg4 arg5 harg5 arg6 harg6 arg9 arg10 x0 x1 x2 x3 x4 x5 t (List.mem_reverse.1 ht) p hp

end Cert.Attn
-- ==== Proof.Spec.lean ====
/- The attention's results as functions of the arguments. -/
module

public import proofs.«01_k».proof.Proof.Load

@[expose] public section

noncomputable section

namespace Cert.Attn

open Idealize.ShloMosaic

/-- A decoded query entry of the arguments: batch, head, query, feature. -/
def qArg (X : (⟨4, ![3, 640, 14, 128]⟩ : Shape).Idx → EReal) (Y : (⟨4, ![3, 640, 14, 4]⟩ : Shape).Idx → BitVec 8) (b h p d : ℕ) : EReal :=
  X (ix4 (Fin.ofNat 3 b) (Fin.ofNat 640 p) (Fin.ofNat 14 h) (Fin.ofNat 128 d))
    * dec (Y (ix4 (Fin.ofNat 3 b) (Fin.ofNat 640 p) (Fin.ofNat 14 h) (Fin.ofNat 4 (d / 32))))

/-- A decoded key entry of the arguments: batch, key-value head, key, feature. -/
def kArg (X : (⟨4, ![3, 640, 2, 128]⟩ : Shape).Idx → EReal) (Y : (⟨4, ![3, 640, 2, 4]⟩ : Shape).Idx → BitVec 8) (b h k d : ℕ) : EReal :=
  X (ix4 (Fin.ofNat 3 b) (Fin.ofNat 640 k) (Fin.ofNat 2 h) (Fin.ofNat 128 d))
    * dec (Y (ix4 (Fin.ofNat 3 b) (Fin.ofNat 640 k) (Fin.ofNat 2 h) (Fin.ofNat 4 (d / 32))))

/-- A decoded value entry of the arguments: batch, key-value head, key, feature. -/
def vArg (X : (⟨4, ![3, 640, 2, 128]⟩ : Shape).Idx → EReal) (Y : (⟨4, ![3, 20, 2, 128]⟩ : Shape).Idx → BitVec 8) (b h k d : ℕ) : EReal :=
  X (ix4 (Fin.ofNat 3 b) (Fin.ofNat 640 k) (Fin.ofNat 2 h) (Fin.ofNat 128 d))
    * dec (Y (ix4 (Fin.ofNat 3 b) (Fin.ofNat 20 (k / 32)) (Fin.ofNat 2 h) (Fin.ofNat 128 d)))

variable (X0 : (⟨4, ![3, 640, 14, 128]⟩ : Shape).Idx → EReal) (X1 : (⟨4, ![3, 640, 14, 4]⟩ : Shape).Idx → BitVec 8)
  (X2 : (⟨4, ![3, 640, 2, 128]⟩ : Shape).Idx → EReal) (X3 : (⟨4, ![3, 640, 2, 4]⟩ : Shape).Idx → BitVec 8)
  (X4 : (⟨4, ![3, 640, 2, 128]⟩ : Shape).Idx → EReal) (X5 : (⟨4, ![3, 20, 2, 128]⟩ : Shape).Idx → BitVec 8)

/-- The scores of one query of one head. -/
def argScores (b h p : ℕ) : ℕ → EReal := scoreOf (kArg X2 X3 b (h / 7)) (qArg X0 X1 b h p) p

/-- The second result. -/
def specLse : (⟨3, ![3, 14, 640]⟩ : Shape).Idx → EReal := fun j => lse (argScores X0 X1 X2 X3 (j 0).val (j 1).val (j 2).val) (j 2).val

/-- The first result: heads follow one another along its last axis. -/
def specOut : (⟨3, ![3, 640, 1792]⟩ : Shape).Idx → EReal := fun j =>
  mixed (argScores X0 X1 X2 X3 (j 0).val ((j 2).val / 128) (j 1).val) (fun k => vArg X4 X5 (j 0).val ((j 2).val / 128 / 7) k ((j 2).val % 128))

end Cert.Attn
-- ==== Proof.Final.lean ====
/- The kernel's result arrays as functions of the arguments. -/
module

public import proofs.«01_k».proof.Proof.Block
public import proofs.«01_k».proof.Proof.Spec
public import proofs.«01_k».proof.Proof.Gen.KernelIdeal.Value
public import Idealize.ShloMosaic.Lib.Pipeline.ValueKit
public import Idealize.ShloMosaic.Lib.Claim

@[expose] public section

set_option maxRecDepth 65536

noncomputable section

namespace Cert.Attn.Kern

open Idealize.ShloMosaic Idealize.ShloMosaic.TcCoe Idealize.SL.Sem Cert.KernelIdeal Cert.KernelIdeal.Gen Cert.Attn

variable (m : (ℓ : Loc nD τ sig) → Buf (Elt Ideal) ℓ)

/-- The blocks' places: one batch entry each. -/
theorem idx : ∀ t : Fin cfg0.N, win0_0.index t = ![t.val, 0, 0, 0] ∧ win0_1.index t = ![t.val, 0, 0, 0] ∧ win0_2.index t = ![t.val, 0, 0, 0]
    ∧ win0_3.index t = ![t.val, 0, 0, 0] ∧ win0_4.index t = ![t.val, 0, 0, 0] ∧ win0_5.index t = ![t.val, 0, 0, 0]
    ∧ win0_6.index t = ![t.val, 0, 0] ∧ win0_7.index t = ![t.val, 0, 0] :=
  (by decide +kernel : ∀ t : Fin grid0.N, _)

/-- A block of the queries' codes. -/
theorem q_blk (c : Dev nD) (t : Fin cfg0.N) (ht : t.val < 3) (h : Fin 14) (p : Fin 640) (d : Fin 128) :
    (iblk m c 0 t : Vec Ideal S1x14x640x128 .fp8e4m3) (ix4 0 h p d) = (m ((c : Thread nD τ).loc main_arg0) : S3x640x14x128.Idx → EReal) (ix4 ⟨t.val, ht⟩ p h d) := by
  blk_simp [iblk, idx t]
  entry_read
  pointwise
  blk_ext [idx t]

/-- A block of the queries' scales. -/
theorem qs_blk (c : Dev nD) (t : Fin cfg0.N) (ht : t.val < 3) (h : Fin 14) (g : Fin 4) (p : Fin 640) :
    (iblk m c 1 t : Vec Ideal S1x14x4x640 .i8) (ix4 0 h g p) = (m ((c : Thread nD τ).loc main_arg1) : S3x640x14x4.Idx → BitVec 8) (ix4 ⟨t.val, ht⟩ p h g) := by
  blk_simp [iblk, idx t]
  entry_read
  pointwise
  blk_ext [idx t]

/-- A block of the keys' codes. -/
theorem k_blk (c : Dev nD) (t : Fin cfg0.N) (ht : t.val < 3) (h : Fin 2) (p : Fin 640) (d : Fin 128) :
    (iblk m c 2 t : Vec Ideal S1x2x640x128 .fp8e4m3) (ix4 0 h p d) = (m ((c : Thread nD τ).loc main_arg2) : S3x640x2x128.Idx → EReal) (ix4 ⟨t.val, ht⟩ p h d) := by
  blk_simp [iblk, idx t]
  entry_read
  pointwise
  blk_ext [idx t]

/-- A block of the keys' scales. -/
theorem ks_blk (c : Dev nD) (t : Fin cfg0.N) (ht : t.val < 3) (h : Fin 2) (g : Fin 4) (p : Fin 640) :
    (iblk m c 3 t : Vec Ideal S1x2x4x640 .i8) (ix4 0 h g p) = (m ((c : Thread nD τ).loc main_arg3) : S3x640x2x4.Idx → BitVec 8) (ix4 ⟨t.val, ht⟩ p h g) := by
  blk_simp [iblk, idx t]
  entry_read
  pointwise
  blk_ext [idx t]

/-- A block of the values' codes. -/
theorem v_blk (c : Dev nD) (t : Fin cfg0.N) (ht : t.val < 3) (h : Fin 2) (p : Fin 640) (d : Fin 128) :
    (iblk m c 4 t : Vec Ideal S1x2x640x128 .fp8e4m3) (ix4 0 h p d) = (m ((c : Thread nD τ).loc main_arg4) : S3x640x2x128.Idx → EReal) (ix4 ⟨t.val, ht⟩ p h d) := by
  blk_simp [iblk, idx t]
  entry_read
  pointwise
  blk_ext [idx t]

/-- A block of the values' scales. -/
theorem vs_blk (c : Dev nD) (t : Fin cfg0.N) (ht : t.val < 3) (h : Fin 2) (g : Fin 20) (d : Fin 128) :
    (iblk m c 5 t : Vec Ideal S1x2x20x128 .i8) (ix4 0 h g d) = (m ((c : Thread nD τ).loc main_arg5) : S3x20x2x128.Idx → BitVec 8) (ix4 ⟨t.val, ht⟩ g h d) := by
  blk_simp [iblk, idx t]
  entry_read
  pointwise
  blk_ext [idx t]

/-- The scores of a block's queries are those of the arguments. -/
theorem scores_blk (c : Dev nD) (t : Fin cfg0.N) (ht : t.val < 3) (h p : ℕ) :
    rowScores (iblk m c 0 t) (iblk m c 1 t) (iblk m c 2 t) (iblk m c 3 t) h p
      = argScores (m ((c : Thread nD τ).loc main_arg0)) (m ((c : Thread nD τ).loc main_arg1)) (m ((c : Thread nD τ).loc main_arg2))
        (m ((c : Thread nD τ).loc main_arg3)) t.val h p := by
  have hb : (⟨t.val, ht⟩ : Fin 3) = Fin.ofNat 3 t.val := (ofNat_eq ht).symm
  have hq : qval (iblk m c 0 t) (iblk m c 1 t) h p
      = qArg (m ((c : Thread nD τ).loc main_arg0)) (m ((c : Thread nD τ).loc main_arg1)) t.val h p := by
    funext d
    exact (congrArg₂ (fun a b => a * dec b) (q_blk m c t ht _ _ _) (qs_blk m c t ht _ _ _)).trans (by rw [hb]; rfl)
  have hk : kval (iblk m c 2 t) (iblk m c 3 t) (h / 7)
      = kArg (m ((c : Thread nD τ).loc main_arg2)) (m ((c : Thread nD τ).loc main_arg3)) t.val (h / 7) := by
    funext k d
    exact (congrArg₂ (fun a b => a * dec b) (k_blk m c t ht _ _ _) (ks_blk m c t ht _ _ _)).trans (by rw [hb]; rfl)
  rw [rowScores, argScores, hq, hk]

/-- The values of a block are those of the arguments. -/
theorem values_blk (c : Dev nD) (t : Fin cfg0.N) (ht : t.val < 3) (h k d : ℕ) :
    vval (iblk m c 4 t) (iblk m c 5 t) h k d
      = vArg (m ((c : Thread nD τ).loc main_arg4)) (m ((c : Thread nD τ).loc main_arg5)) t.val h k d := by
  have hb : (⟨t.val, ht⟩ : Fin 3) = Fin.ofNat 3 t.val := (ofNat_eq ht).symm
  exact (congrArg₂ (fun a b => a * dec b) (v_blk m c t ht _ _ _) (vs_blk m c t ht _ _ _)).trans (by rw [hb]; rfl)

/-- The second result's array. -/
theorem final7 (c : Dev nD) : (dats m 0 c).arrAt 7 cfg0.N
    = specLse (m ((c : Thread nD τ).loc main_arg0)) (m ((c : Thread nD τ).loc main_arg1)) (m ((c : Thread nD τ).loc main_arg2))
        (m ((c : Thread nD τ).loc main_arg3)) := by
  refine (dats m 0 c).arrAt_eq_of_covers 7 _ (by decide +kernel) fun t _ y => ?_
  have ht : t.val < 3 := t.isLt
  blk_simp
  rw [after0_7]
  simp only [outsAt0]
  rw [out7_eq]
  unfold lseBuf specLse lseVal
  rw [scores_blk m c t ht]
  blk_simp [idx t]

/-- The first result's array. -/
theorem final6 (c : Dev nD) : (dats m 0 c).arrAt 6 cfg0.N
    = specOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  have ht : t.val < 3 := t.isLt
  blk_simp
  rw [after0_6]
  simp only [outsAt0]
  rw [out6_eq]
  unfold outBuf specOut outVal
  rw [scores_blk m c t ht, funext fun k => values_blk m c t ht _ k _]
  blk_simp [idx t]

end Cert.Attn.Kern
-- ==== Proof.RefCore.lean ====
/- The arithmetic on extended reals that the reference's softmax and quantiser do. -/
module

public import proofs.«01_k».proof.Proof.Lane
public import proofs.«01_k».proof.Proof.Load

@[expose] public section

noncomputable section

namespace Cert.Attn

open Idealize.ShloMosaic

/-- What the scores are multiplied by. -/
def SC : ℝ := (Real.sqrt 128)⁻¹

/-- The factor is positive. -/
theorem SC_pos : 0 < SC := by
  unfold SC
  positivity

/-- The exponential of a difference of scaled scores. -/
theorem exp_scaled (s m : EReal) : Ideal.exp (s * (SC : EReal) - m * (SC : EReal)) = E s m := by
  have hc := C2_pos
  have hs := SC_pos
  induction s using EReal.rec with
  | bot => rw [EReal.bot_mul_coe_of_pos hs, E_bot, sub_eq_add_neg, EReal.bot_add]; rfl
  | coe s =>
    induction m using EReal.rec with
    | bot =>
      rw [E, EReal.bot_mul_coe_of_pos hs, ← EReal.coe_mul, EReal.coe_sub_bot, EReal.coe_sub_bot, EReal.top_mul_coe_of_pos hc]; rfl
    | coe m =>
      rw [E_coe, ← EReal.coe_mul, ← EReal.coe_mul, ← EReal.coe_sub]
      show ((Real.exp _ : ℝ) : EReal) = _
      rw [Real.rpow_def_of_pos two_pos]
      congr 2
      rw [C2, ← SC]
      have : Real.log 2 ≠ 0 := (Real.log_pos one_lt_two).ne'
      field_simp
    | top => rw [EReal.top_mul_coe_of_pos hs, E_top, EReal.sub_top]; rfl
  | top =>
    induction m using EReal.rec with
    | bot =>
      rw [E, EReal.bot_mul_coe_of_pos hs, EReal.top_mul_coe_of_pos hs, EReal.top_sub_bot, EReal.top_mul_coe_of_pos hc]; rfl
    | coe m =>
      rw [E, EReal.top_mul_coe_of_pos hs, ← EReal.coe_mul, EReal.top_sub_coe, EReal.top_sub_coe, EReal.top_mul_coe_of_pos hc]; rfl
    | top => rw [EReal.top_mul_coe_of_pos hs, E_top, EReal.sub_top]; rfl

/-- The maximum of the scaled scores is the scaled maximum. -/
theorem fold_scaled (sc : ℕ → EReal) :
    Finset.univ.fold max ⊥ (fun k : Fin 640 => sc k.val * (SC : EReal)) = top sc * (SC : EReal) := by
  have hs : (0 : EReal) ≤ (SC : EReal) := EReal.coe_nonneg.2 SC_pos.le
  apply le_antisymm
  · refine (Finset.fold_max_le _).2 ⟨bot_le, fun k _ => ?_⟩
    exact mul_le_mul_of_nonneg_right (Finset.le_sup (f := sc) (Finset.mem_range.2 k.isLt)) hs
  · obtain ⟨k, hk, he⟩ := Finset.exists_mem_eq_sup (Finset.range 640) ⟨0, by simp⟩ sc
    rw [top, he]
    exact (Finset.le_fold_max _).2 (Or.inr ⟨⟨k, Finset.mem_range.1 hk⟩, Finset.mem_univ _, le_rfl⟩)

/-- The reference's sum of exponentials. -/
theorem sum_total (sc : ℕ → EReal) : ∑ k : Fin 640, E (sc k.val) (top sc) = total sc :=
  Fin.sum_univ_eq_sum_range (fun k => E (sc k) (top sc)) 640

/-! ## The quantiser -/

/-- The exponent of a block's scale. -/
def expoE (a : EReal) : EReal :=
  Ideal.liftRound Int.floor (Ideal.log (if a = 0 then ((1 / 2 : ℝ) : EReal) else a * ((1 / 448 : ℝ) : EReal)) * (((Real.log 2)⁻¹ : ℝ) : EReal)) + 1

/-- One entry quantised against `a` and decoded again. -/
def quantR (p a : EReal) : EReal :=
  min ((448 : ℝ) : EReal) (max ((-448 : ℝ) : EReal) (p * Ideal.exp2 (0 - expoE a))) * Ideal.exp2 (expoE a)

/-- Quantising and decoding an entry between zero and the block's real maximum loses nothing. -/
theorem quantR_real (p a : ℝ) (hp : 0 ≤ p) (hpa : p ≤ a) : quantR p a = (p : EReal) := by
  obtain ⟨t, ht, ht0, hat⟩ : ∃ t : ℝ, (if (a : EReal) = 0 then ((1 / 2 : ℝ) : EReal) else (a : EReal) * ((1 / 448 : ℝ) : EReal)) = t ∧ 0 < t ∧ a ≤ 448 * t := by
    by_cases h : a = 0
    · exact ⟨1 / 2, by rw [if_pos (by rw [h]; rfl)], by norm_num, by rw [h]; norm_num⟩
    · refine ⟨a * (1 / 448), by rw [if_neg (by exact_mod_cast h), EReal.coe_mul], ?_, by linarith⟩
      have := lt_of_le_of_ne (hp.trans hpa) (Ne.symm h)
      positivity
  obtain ⟨n, hn, hlt⟩ : ∃ n : ℝ, expoE a = n ∧ t ≤ (2 : ℝ) ^ n := by
    refine ⟨(⌊Real.log t * (Real.log 2)⁻¹⌋ : ℝ) + 1, ?_, ?_⟩
    · rw [expoE, ht]
      have : Ideal.log (t : EReal) = ((Real.log t : ℝ) : EReal) := if_neg (not_le.2 ht0)
      rw [this, ← EReal.coe_mul]
      rfl
    · rw [Real.rpow_def_of_pos two_pos, ← Real.log_le_iff_le_exp ht0]
      have h2 := Real.log_pos one_lt_two
      have := (Int.lt_floor_add_one (Real.log t * (Real.log 2)⁻¹)).le
      rw [← div_eq_mul_inv, div_le_iff₀ h2] at this
      rw [← div_eq_mul_inv]
      linarith
  have e1 : Ideal.exp2 ((n : ℝ) : EReal) = (((2 : ℝ) ^ n : ℝ) : EReal) := rfl
  have e2 : Ideal.exp2 (0 - ((n : ℝ) : EReal)) = (((2 : ℝ) ^ (-n) : ℝ) : EReal) := by
    rw [zero_sub, ← EReal.coe_neg]; rfl
  have hpos : (0 : ℝ) < 2 ^ n := Real.rpow_pos_of_pos two_pos n
  rw [quantR, hn, e1, e2, ← EReal.coe_mul]
  have hb : p * (2 : ℝ) ^ (-n) ≤ 448 := by
    rw [Real.rpow_neg two_pos.le, ← div_eq_mul_inv, div_le_iff₀ hpos]
    linarith
  have h0 : -448 ≤ p * (2 : ℝ) ^ (-n) := le_trans (by norm_num) (mul_nonneg hp (Real.rpow_pos_of_pos two_pos _).le)
  rw [max_eq_right (EReal.coe_le_coe_iff.2 h0), min_eq_right (EReal.coe_le_coe_iff.2 hb), ← EReal.coe_mul, mul_assoc,
    ← Real.rpow_add two_pos, neg_add_cancel, Real.rpow_zero, mul_one]

/-- Against minus infinity the scale is zero, and so is every decoded entry. -/
theorem quantR_bot (p : EReal) : quantR p ⊥ = 0 := by
  have h : expoE ⊥ = ⊥ := by
    rw [expoE, if_neg (by simp), EReal.bot_mul_coe_of_pos (by norm_num)]
    show Ideal.liftRound Int.floor (⊥ * _) + 1 = ⊥
    rw [EReal.bot_mul_coe_of_pos (inv_pos.2 (Real.log_pos one_lt_two))]
    exact EReal.bot_add 1
  rw [quantR, h]
  exact mul_zero _

/-- A quantised and decoded probability is the key's weight. -/
theorem quantR_weight (sc : ℕ → EReal) (f : Fin 32 → ℕ) (hf : ∀ i, f i < 640) (i : Fin 32) :
    quantR (Ideal.div (E (sc (f i)) (top sc)) (total sc))
      (Finset.univ.fold max ⊥ fun i => Ideal.div (E (sc (f i)) (top sc)) (total sc)) = weight sc (f i) := by
  have hle : ∀ k < 640, sc k ≤ top sc := fun k hk => Finset.le_sup (Finset.mem_range.2 hk)
  have hz : (∀ k < 640, E (sc k) (top sc) = 0) → quantR (Ideal.div (E (sc (f i)) (top sc)) (total sc))
      (Finset.univ.fold max ⊥ fun i => Ideal.div (E (sc (f i)) (top sc)) (total sc)) = weight sc (f i) := fun h => by
    have ht : total sc = 0 := Finset.sum_eq_zero fun k hk => h k (Finset.mem_range.1 hk)
    have hd : Ideal.div (0 : EReal) 0 = ⊥ := by rw [Ideal.div, if_pos rfl, if_neg (lt_irrefl _)]
    have hb : (Finset.univ.fold max (⊥ : EReal) fun i => Ideal.div (E (sc (f i)) (top sc)) (total sc)) = ⊥ :=
      le_bot_iff.1 ((Finset.fold_max_le _).2 ⟨le_rfl, fun j _ => by rw [h _ (hf j), ht, hd]⟩)
    rw [hb, quantR_bot, weight, h _ (hf i), zero_mul]
  generalize hm : top sc = m at *
  induction m using EReal.rec with
  | bot => exact hz fun k hk => by rw [le_bot_iff.1 (hle k hk), E_bot]
  | top => exact hz fun k _ => E_top _
  | coe m =>
    obtain ⟨d, hd, hd1⟩ := total_real sc m hm
    have hd0 : (0 : ℝ) < d := by linarith
    have hdiv : ∀ e : ℝ, Ideal.div (e : EReal) (d : EReal) = ((e / d : ℝ) : EReal) := fun e => by
      rw [Ideal.div, if_neg (by exact_mod_cast hd0.ne'), div_eq_mul_inv, EReal.coe_mul]; rfl
    have hp : ∀ j, ∃ p : ℝ, Ideal.div (E (sc (f j)) m) (d : EReal) = p ∧ 0 ≤ p ∧ p ≤ 1 := fun j => by
      obtain ⟨e, he, h0, h1⟩ := E_unit (hle _ (hf j))
      exact ⟨e / d, by rw [he, hdiv], by positivity, (div_le_one hd0).2 (h1.trans hd1)⟩
    rw [hd]
    have hlo := (Finset.le_fold_max (b := (⊥ : EReal)) (f := fun j => Ideal.div (E (sc (f j)) m) (d : EReal)) (s := Finset.univ)
      (Ideal.div (E (sc (f i)) m) (d : EReal))).2 (Or.inr ⟨i, Finset.mem_univ _, le_rfl⟩)
    have hhi : (Finset.univ.fold max (⊥ : EReal) fun j => Ideal.div (E (sc (f j)) m) (d : EReal)) ≤ ((1 : ℝ) : EReal) :=
      (Finset.fold_max_le _).2 ⟨bot_le, fun j _ => by obtain ⟨p, hp, _, h1⟩ := hp j; rw [hp]; exact_mod_cast h1⟩
    generalize (Finset.univ.fold max (⊥ : EReal) fun j => Ideal.div (E (sc (f j)) m) (d : EReal)) = a at hlo hhi ⊢
    obtain ⟨p, hpe, hp0, hp1⟩ := hp i
    rw [hpe] at hlo ⊢
    induction a using EReal.rec with
    | bot => exact absurd hlo (by simp)
    | top => exact absurd hhi (not_le.2 (EReal.coe_lt_top 1))
    | coe a =>
      rw [quantR_real p a hp0 (EReal.coe_le_coe_iff.1 hlo), weight, hm, hd, ← hpe]
      obtain ⟨e, he, _, _⟩ := E_unit (hle _ (hf i))
      rw [he, hdiv, show (1 : EReal) = ((1 : ℝ) : EReal) from rfl, hdiv, ← EReal.coe_mul, mul_one_div]

/-! ## The scales -/

/-- A scale byte as the reference decodes it. -/
def rdec (b : BitVec 8) : EReal :=
  Ideal.exp2 (FloatOps.sitofp (F := Ideal) .f32 (b.setWidth 32) - Ideal.ofBits .f32 1123942400#32)

/-- The bits of 127. -/
theorem bits_bias : Ideal.ofBits .f32 1123942400#32 = ((127 : ℝ) : EReal) := by
  simp [Ideal.ofBits, Ideal.ieee]
  rw [← EReal.coe_mul]
  norm_num

/-- A byte from 1 to 254 is the same scale to both. -/
theorem rdec_eq (b : BitVec 8) (h1 : 1 ≤ b.toNat) (h2 : b.toNat ≤ 254) : rdec b = dec b := by
  have hs : IntOp.shli .vector (b.setWidth 32) 23#32 = BitVec.ofNat 32 (b.toNat * 8388608) := by
    apply BitVec.eq_of_toNat_eq
    rw [BitVec.toNat_ofNat, show IntOp.shli .vector (b.setWidth 32) 23#32 = (b.setWidth 32) <<< 23 from rfl]
    rw [BitVec.toNat_shiftLeft, BitVec.toNat_setWidth, Nat.shiftLeft_eq]
    have := b.isLt
    omega
  have hi : ((b.setWidth 32).toInt : ℝ) = (b.toNat : ℝ) := by
    have : (b.setWidth 32).toInt = (b.toNat : ℤ) := by
      have := b.isLt
      rw [BitVec.toInt_eq_toNat_cond, BitVec.toNat_setWidth]; omega
    rw [this]; rfl
  rw [dec, hs, ofBits_shift _ h2, rdec, bits_bias]
  show Ideal.exp2 ((((b.setWidth 32).toInt : ℝ) : EReal) - _) = _
  rw [hi, ← EReal.coe_sub, pw, if_neg (by omega), ← Real.rpow_intCast]
  show ((Real.rpow 2 _ : ℝ) : EReal) = _
  push_cast
  rfl

end Cert.Attn
-- ==== Proof.Ref.lean ====
/- The reference's values at an index. -/
module

public import proofs.«01_k».proof.Proof.Spec
public import proofs.«01_k».proof.Proof.RefCore
public import proofs.«01_k».proof.Proof.Gen.ReferenceIdeal.Frame

@[expose] public section

set_option maxRecDepth 65536

noncomputable section

namespace Cert.Attn.Refl

open Idealize.ShloMosaic Idealize.SL.Sem Cert.ReferenceIdeal Cert.ReferenceIdeal.Gen Cert.Attn

/-- A decoded query entry. -/
theorem q_at (x0 : Vec Ideal S6x4480x128 .fp8e4m3) (x1 : Vec Ideal S6x4480x4 .i8) (n : Fin 6) (r : Fin 4480) (d : Fin 128) :
    k0_pay2 x0 x1 (ix3 n r d) = x0 (ix3 n r d) * rdec (x1 (ix3 n r ⟨d.val / 32, by omega⟩)) := by
  pointwise [k0_pay2]
  rfl

/-- A decoded key entry. -/
theorem k_at (x0 : Vec Ideal S6x640x128 .fp8e4m3) (x1 : Vec Ideal S6x640x4 .i8) (n : Fin 6) (r : Fin 640) (d : Fin 128) :
    k0_pay3 x0 x1 (ix3 n r d) = x0 (ix3 n r d) * rdec (x1 (ix3 n r ⟨d.val / 32, by omega⟩)) := by
  pointwise [k0_pay3]
  rfl

/-- A decoded value entry. -/
theorem v_at (x0 : Vec Ideal S6x640x128 .fp8e4m3) (x1 : Vec Ideal S6x20x128 .i8) (n : Fin 6) (r : Fin 640) (d : Fin 128) :
    k0_pay6 (k0_pay4 x0) (k0_pay5 x1) (ix3 n r d) = x0 (ix3 n r d) * rdec (x1 (ix3 n ⟨r.val / 32, by omega⟩ d)) := by
  pointwise [k0_pay4, k0_pay5, k0_pay6]
  rfl

variable (Q : FVec Ideal S6x4480x128 .bf16) (K : FVec Ideal S6x640x128 .bf16)

/-- The scores of one query. -/
def refScores (n : Fin 6) (g : Fin 7) (p : ℕ) : ℕ → EReal :=
  scoreOf (fun k d => K (ix3 n (Fin.ofNat 640 k) (Fin.ofNat 128 d))) (fun d => Q (ix3 n (Fin.ofNat 4480 (g.val * 640 + p)) (Fin.ofNat 128 d))) p

/-- The mask is the comparison of positions. -/
theorem mask_at (p k : Fin 640) (a b : EReal) :
    Scalar.select (IntOp.cmpi CmpIPredicate.sle (BitVec.ofNat 32 k.val) (BitVec.ofNat 32 p.val)) a b = if k.val ≤ p.val then a else b := by
  have h := sle_small k.val p.val 0 0 (by omega) (by omega) (by omega) (by omega)
  rw [show BitVec.ofNat 32 p.val - BitVec.ofNat 32 0 - BitVec.ofNat 32 0 = BitVec.ofNat 32 p.val by simp] at h
  simp only [Nat.zero_add] at h
  show (if BitVec.ofBool ((BitVec.ofNat 32 k.val).sle (BitVec.ofNat 32 p.val)) = 1#1 then a else b) = _
  rw [h]
  by_cases hk : k.val ≤ p.val <;> simp [hk]

/-- A scaled score. -/
theorem s_at (n : Fin 6) (g : Fin 7) (p k : Fin 640) : k0_pay7 Q K (ix4 n g p k) = refScores Q K n g p.val k.val * (SC : EReal) := by
  pointwise [k0_pay7]
  rw [mask_at, bits_ninf, refScores, scoreOf]
  by_cases hk : k.val ≤ p.val
  · rw [if_pos hk, if_pos hk]
    refine congrArg₂ (fun a b : EReal => a * b) ?_ rfl
    rw [ofNat_eq k.isLt, ofNat_eq (show g.val * 640 + p.val < 4480 by omega)]
    rw [← Fin.sum_univ_eq_sum_range (fun d => K (ix3 n k (Fin.ofNat 128 d)) * Q (ix3 n ⟨g.val * 640 + p.val, _⟩ (Fin.ofNat 128 d))) 128]
    refine Finset.sum_congr rfl fun d _ => ?_
    rw [ofNat_eq d.isLt, mul_comm]
  · rw [if_neg hk, if_neg hk, EReal.bot_mul_coe_of_pos SC_pos]

/-- The scaled maximum. -/
theorem m_at (n : Fin 6) (g : Fin 7) (p : Fin 640) : k0_pay8 Q K (ix4 n g p 0) = top (refScores Q K n g p.val) * (SC : EReal) := by
  pointwise [k0_pay8]
  rw [bits_ninf, ← fold_scaled]
  exact congrArg (fun f => Finset.fold max (⊥ : EReal) f Finset.univ) (funext fun k => s_at Q K n g p k)

/-- An exponential. -/
theorem e_at (n : Fin 6) (g : Fin 7) (p k : Fin 640) :
    k0_pay9 Q K (ix4 n g p k) = E (refScores Q K n g p.val k.val) (top (refScores Q K n g p.val)) := by
  pointwise [k0_pay9]
  rw [s_at, m_at, exp_scaled]

/-- The sum of the exponentials. -/
theorem d_at (n : Fin 6) (g : Fin 7) (p : Fin 640) : k0_pay10 Q K (ix4 n g p 0) = total (refScores Q K n g p.val) := by
  pointwise [k0_pay10]
  rw [← sum_total]
  exact Finset.sum_congr rfl fun k _ => e_at Q K n g p k

/-- The logarithm of the number of keys seen. -/
theorem pos_at (n : Fin 6) (g : Fin 7) (p : Fin 640) :
    (log (sitofp .f32 (addi (iota .tc S6x7x640 32 [2] iota_S6x7x640_d2_w32) (broadcast S6x7x640 1#32))) : FVec Ideal S6x7x640 .f32) (ix3 n g p)
      = Ideal.log (((p.val : ℝ) + 1 : ℝ) : EReal) := by
  pointwise
  exact congrArg Ideal.log (count_at p.val (by omega))

/-- The logarithm of the sum of exponentials. -/
theorem sum_log_at (x y : FVec Ideal S6x7x640x1 .f32) (n : Fin 6) (g : Fin 7) (p : Fin 640) :
    (shapeCast S6x7x640 (addf x (log y)) shapeCasts_S6x7x640x1_S6x7x640 : FVec Ideal S6x7x640 .f32) (ix3 n g p)
      = x (ix4 n g p 0) + Ideal.log (y (ix4 n g p 0)) := by
  pointwise

/-- The two leading axes regrouped. -/
theorem heads_at (x : FVec Ideal S6x7x640 .f32) (b : Fin 3) (h : Fin 14) (p : Fin 640) :
    shapeCast S3x14x640 x shapeCasts_S6x7x640_S3x14x640 (ix3 b h p) = x (ix3 ⟨b.val * 2 + h.val / 7, by omega⟩ ⟨h.val % 7, by omega⟩ p) := by
  pointwise

/-- The second result from the scaled maxima and the sums. -/
theorem lse_at (x y : FVec Ideal S6x7x640x1 .f32) (b : Fin 3) (h : Fin 14) (p : Fin 640) :
    shapeCast S3x14x640 (subf (shapeCast S6x7x640 (addf x (log y)) shapeCasts_S6x7x640x1_S6x7x640)
      (log (sitofp .f32 (addi (iota .tc S6x7x640 32 [2] iota_S6x7x640_d2_w32) (broadcast S6x7x640 1#32))) : FVec Ideal S6x7x640 .f32))
      shapeCasts_S6x7x640_S3x14x640 (ix3 b h p)
      = x (ix4 ⟨b.val * 2 + h.val / 7, by omega⟩ ⟨h.val % 7, by omega⟩ p 0)
        + Ideal.log (y (ix4 ⟨b.val * 2 + h.val / 7, by omega⟩ ⟨h.val % 7, by omega⟩ p 0)) - Ideal.log (((p.val : ℝ) + 1 : ℝ) : EReal) :=
  (heads_at _ b h p).trans (congrArg₂ (fun a b : EReal => a - b) (sum_log_at x y _ _ p) (pos_at _ _ p))

/-- The second result's payload. -/
theorem pay11_eq : k0_pay11 Q K = shapeCast S3x14x640 (subf (shapeCast S6x7x640 (addf (k0_pay8 Q K) (log (k0_pay10 Q K))) shapeCasts_S6x7x640x1_S6x7x640)
    (log (sitofp .f32 (addi (iota .tc S6x7x640 32 [2] iota_S6x7x640_d2_w32) (broadcast S6x7x640 1#32))) : FVec Ideal S6x7x640 .f32)) shapeCasts_S6x7x640_S3x14x640 := rfl

/-- The second result. -/
theorem l_at (b : Fin 3) (h : Fin 14) (p : Fin 640) :
    k0_pay11 Q K (ix3 b h p) = lse (refScores Q K ⟨b.val * 2 + h.val / 7, by omega⟩ ⟨h.val % 7, by omega⟩ p.val) p.val := by
  rw [pay11_eq]
  refine (lse_at _ _ b h p).trans ?_
  rw [m_at, d_at]
  rfl

/-- A probability. -/
theorem p_at (n : Fin 6) (g : Fin 7) (p : Fin 640) (c : Fin 20) (i : Fin 32) :
    k0_pay12 Q K (ix5 n g p c i) = Ideal.div (E (refScores Q K n g p.val (c.val * 32 + i.val)) (top (refScores Q K n g p.val))) (total (refScores Q K n g p.val)) := by
  pointwise [k0_pay12]
  rw [e_at, d_at]

/-- A block's maximum. -/
theorem amax_at (P : FVec Ideal S6x7x640x20x32 .f32) (n : Fin 6) (g : Fin 7) (p : Fin 640) (c : Fin 20) :
    (multiReduction .maximumf [4] S6x7x640x20 P 0xFF800000#32 reduces_S6x7x640x20x32_S6x7x640x20 (.inl rfl) rfl) (ix4 n g p c)
      = Finset.univ.fold max (⊥ : EReal) fun i => P (ix5 n g p c i) := by
  pointwise
  rw [bits_ninf]

/-- The choice of what the scale is taken from. -/
theorem asel_at (x : FVec Ideal S6x7x640x20 .f32) (n : Fin 6) (g : Fin 7) (p : Fin 640) (c : Fin 20) :
    (select (cmpf .oeq x (broadcast S6x7x640x20 (Scalar.ofBits .f32 0x00000000#32))) (broadcast S6x7x640x20 (Scalar.ofBits .f32 0x3F000000#32))
      (mulf x (broadcast S6x7x640x20 (Named.named κ "inv_fp8_max" 0x3B124925#32))) : FVec Ideal S6x7x640x20 .f32) (ix4 n g p c)
      = if x (ix4 n g p c) = 0 then ((1 / 2 : ℝ) : EReal) else x (ix4 n g p c) * ((1 / 448 : ℝ) : EReal) := by
  pointwise
  rw [bits_half]
  rfl

/-- The payload that the scales are taken from. -/
theorem pay13_eq (P : FVec Ideal S6x7x640x20x32 .f32) (hP : P = k0_pay12 Q K) (x : FVec Ideal S6x7x640x20 .f32)
    (hx : x = multiReduction .maximumf [4] S6x7x640x20 P 0xFF800000#32 reduces_S6x7x640x20x32_S6x7x640x20 (.inl rfl) rfl) :
    k0_pay13 Q K = select (cmpf .oeq x (broadcast S6x7x640x20 (Scalar.ofBits .f32 0x00000000#32))) (broadcast S6x7x640x20 (Scalar.ofBits .f32 0x3F000000#32))
      (mulf x (broadcast S6x7x640x20 (Named.named κ "inv_fp8_max" 0x3B124925#32))) := by
  subst hx hP
  rfl

/-- What a block's scale is taken from. -/
theorem a_at (P : FVec Ideal S6x7x640x20x32 .f32) (n : Fin 6) (g : Fin 7) (p : Fin 640) (c : Fin 20) (hP : P = k0_pay12 Q K) :
    k0_pay13 Q K (ix4 n g p c) = (if Finset.univ.fold max (⊥ : EReal) (fun i => P (ix5 n g p c i)) = 0 then ((1 / 2 : ℝ) : EReal)
      else Finset.univ.fold max (⊥ : EReal) (fun i => P (ix5 n g p c i)) * ((1 / 448 : ℝ) : EReal)) := by
  rw [pay13_eq Q K P hP _ rfl, asel_at, amax_at]

/-- One entry quantised and decoded, from what the scale is taken from. -/
def quantT (p t : EReal) : EReal :=
  min ((448 : ℝ) : EReal) (max ((-448 : ℝ) : EReal) (p * Ideal.exp2 (0 - (Ideal.liftRound Int.floor (Ideal.log t * (((Real.log 2)⁻¹ : ℝ) : EReal)) + 1))))
    * Ideal.exp2 (Ideal.liftRound Int.floor (Ideal.log t * (((Real.log 2)⁻¹ : ℝ) : EReal)) + 1)

/-- The output product. -/
theorem out_at (V : FVec Ideal S6x640x128 .bf16) (P : FVec Ideal S6x7x640x20x32 .f32) (A : FVec Ideal S6x7x640x20 .f32) (b : Fin 3) (p : Fin 640) (l : Fin 1792)
    (n : Fin 6) (g : Fin 7) (hn : n.val = b.val * 2 + l.val / 128 / 7) (hg : g.val = l.val / 128 % 7) :
    k0_pay1 V P A (ix3 b p l)
      = ∑ k : Fin 640, quantT (P (ix5 n g p ⟨k.val / 32, by omega⟩ ⟨k.val % 32, by omega⟩)) (A (ix4 n g p ⟨k.val / 32, by omega⟩))
        * V (ix3 n k ⟨l.val % 128, by omega⟩) := by
  pointwise [k0_pay1]
  have hn' : (⟨b.val * 2 + l.val / 128 / 7, by omega⟩ : Fin 6) = n := Fin.ext hn.symm
  have hd : (l.val / 128 % 7 * 640 + p.val) / 640 = l.val / 128 % 7 := by omega
  have hg' : (⟨(l.val / 128 % 7 * 640 + p.val) / 640, by omega⟩ : Fin 7) = g := Fin.ext (hd.trans hg.symm)
  have key : ∀ n' g', n' = n → g' = g → (∑ k : Fin 640, quantT (P (ix5 n' g' p ⟨k.val / 32, by omega⟩ ⟨k.val % 32, by omega⟩)) (A (ix4 n' g' p ⟨k.val / 32, by omega⟩))
      * V (ix3 n' k ⟨l.val % 128, by omega⟩)) = ∑ k : Fin 640, quantT (P (ix5 n g p ⟨k.val / 32, by omega⟩ ⟨k.val % 32, by omega⟩)) (A (ix4 n g p ⟨k.val / 32, by omega⟩))
      * V (ix3 n k ⟨l.val % 128, by omega⟩) := by rintro _ _ rfl rfl; rfl
  rw [bits_max, bits_min]
  refine Eq.trans (Finset.sum_congr rfl fun k _ => ?_) (key ⟨b.val * 2 + l.val / 128 / 7, by omega⟩ ⟨(l.val / 128 % 7 * 640 + p.val) / 640, by omega⟩ hn' hg')
  generalize P _ = x
  generalize A _ = y
  rfl

/-- The first result. -/
theorem o_at (V : FVec Ideal S6x640x128 .bf16) (b : Fin 3) (p : Fin 640) (l : Fin 1792) (n : Fin 6) (g : Fin 7)
    (hn : n.val = b.val * 2 + l.val / 128 / 7) (hg : g.val = l.val / 128 % 7) :
    k0_pay1 V (k0_pay12 Q K) (k0_pay13 Q K) (ix3 b p l)
      = mixed (refScores Q K n g p.val) (fun k => V (ix3 n (Fin.ofNat 640 k) ⟨l.val % 128, by omega⟩)) := by
  rw [out_at V _ _ b p l n g hn hg, mixed]
  rw [← Fin.sum_univ_eq_sum_range (fun k => V (ix3 n (Fin.ofNat 640 k) ⟨l.val % 128, by omega⟩) * weight (refScores Q K n g p.val) k) 640]
  refine Finset.sum_congr rfl fun k _ => ?_
  have hw := quantR_weight (refScores Q K n g p.val) (fun i => k.val / 32 * 32 + i.val) (fun i => by omega) ⟨k.val % 32, by omega⟩
  rw [ofNat_eq k.isLt, mul_comm]
  refine congrArg₂ (fun a b : EReal => a * b) rfl ?_
  rw [p_at, a_at Q K _ n g p _ rfl, funext fun i => p_at Q K n g p _ i]
  refine Eq.trans hw ?_
  exact congrArg (weight (refScores Q K n g p.val)) (by show k.val / 32 * 32 + k.val % 32 = k.val; omega)

end Cert.Attn.Refl
-- ==== Proof.RefFinal.lean ====
/- The reference's result arrays as functions of the arguments. -/
module

public import proofs.«01_k».proof.Proof.Ref
public import proofs.«01_k».proof.Proof.Gen.ReferenceIdeal.Value
public import Idealize.ShloMosaic.Lib.Pipeline.ValueKit
public import Idealize.ShloMosaic.Lib.Claim

@[expose] public section

set_option maxRecDepth 65536

noncomputable section

namespace Cert.Attn.Refl

open Idealize.ShloMosaic Idealize.ShloMosaic.TcCoe Idealize.SL.Sem Cert.ReferenceIdeal Cert.ReferenceIdeal.Gen Cert.Attn

/-- A scale byte is that of a normal power of two. -/
def Normal {s : Shape} (Y : s.Idx → BitVec 8) : Prop := ∀ i, 1 ≤ (Y i).toNat ∧ (Y i).toNat ≤ 254

/-- A normal scale byte is the same scale to both. -/
theorem Normal.dec {s : Shape} {Y : s.Idx → BitVec 8} (h : Normal Y) (i : s.Idx) : rdec (Y i) = Attn.dec (Y i) := rdec_eq _ (h i).1 (h i).2

/-- Indices with equal coordinates. -/
theorem ix4_eq {n0 n1 n2 n3 : ℕ} {a a' : Fin n0} {b b' : Fin n1} {c c' : Fin n2} {d d' : Fin n3} (ha : a.val = a'.val) (hb : b.val = b'.val)
    (hc : c.val = c'.val) (hd : d.val = d'.val) : ix4 a b c d = ix4 a' b' c' d' := by
  rw [Fin.ext ha, Fin.ext hb, Fin.ext hc, Fin.ext hd]

section
variable (X0 : (⟨4, ![3, 640, 14, 128]⟩ : Shape).Idx → EReal) (X1 : (⟨4, ![3, 640, 14, 4]⟩ : Shape).Idx → BitVec 8)
  (X2 : (⟨4, ![3, 640, 2, 128]⟩ : Shape).Idx → EReal) (X3 : (⟨4, ![3, 640, 2, 4]⟩ : Shape).Idx → BitVec 8)
  (X4 : (⟨4, ![3, 640, 2, 128]⟩ : Shape).Idx → EReal) (X5 : (⟨4, ![3, 20, 2, 128]⟩ : Shape).Idx → BitVec 8)
  (x0 : Vec Ideal S6x4480x128 .fp8e4m3) (x1 : Vec Ideal S6x4480x4 .i8) (x2 : Vec Ideal S6x640x128 .fp8e4m3) (x3 : Vec Ideal S6x640x4 .i8)
  (x4 : Vec Ideal S6x640x128 .fp8e4m3) (x5 : Vec Ideal S6x20x128 .i8)

/-- The scores are those of the arguments. -/
theorem scores_eq (h0 : ∀ (n : Fin 6) (r : Fin 4480) (d : Fin 128), x0 (ix3 n r d) = X0 (ix4 ⟨n.val / 2, by omega⟩ ⟨r.val % 640, by omega⟩ ⟨n.val % 2 * 7 + r.val / 640, by omega⟩ d))
    (h1 : ∀ (n : Fin 6) (r : Fin 4480) (d : Fin 4), x1 (ix3 n r d) = X1 (ix4 ⟨n.val / 2, by omega⟩ ⟨r.val % 640, by omega⟩ ⟨n.val % 2 * 7 + r.val / 640, by omega⟩ d))
    (h2 : ∀ (n : Fin 6) (r : Fin 640) (d : Fin 128), x2 (ix3 n r d) = X2 (ix4 ⟨n.val / 2, by omega⟩ r ⟨n.val % 2, by omega⟩ d))
    (h3 : ∀ (n : Fin 6) (r : Fin 640) (d : Fin 4), x3 (ix3 n r d) = X3 (ix4 ⟨n.val / 2, by omega⟩ r ⟨n.val % 2, by omega⟩ d))
    (hX1 : Normal X1) (hX3 : Normal X3) (b h p : ℕ) (hb : b < 3) (hh : h < 14) (hp : p < 640) (n : Fin 6) (g : Fin 7) (hn : n.val = b * 2 + h / 7) (hg : g.val = h % 7) :
    refScores (k0_pay2 x0 x1) (k0_pay3 x2 x3) n g p = argScores X0 X1 X2 X3 b h p := by
  have hq : (fun d => k0_pay2 x0 x1 (ix3 n (Fin.ofNat 4480 (g.val * 640 + p)) (Fin.ofNat 128 d))) = qArg X0 X1 b h p := by
    funext d
    rw [q_at, h0, h1, hX1.dec, qArg]
    have e : (Fin.ofNat 4480 (g.val * 640 + p)).val = h % 7 * 640 + p := by rw [hg]; exact Nat.mod_eq_of_lt (by omega)
    refine congrArg₂ (fun i j => X0 i * dec (X1 j)) (ix4_eq ?_ ?_ ?_ ?_) (ix4_eq ?_ ?_ ?_ ?_)
    · show n.val / 2 = b % 3; omega
    · show (Fin.ofNat 4480 (g.val * 640 + p)).val % 640 = p % 640; omega
    · show n.val % 2 * 7 + (Fin.ofNat 4480 (g.val * 640 + p)).val / 640 = h % 14; omega
    · rfl
    · show n.val / 2 = b % 3; omega
    · show (Fin.ofNat 4480 (g.val * 640 + p)).val % 640 = p % 640; omega
    · show n.val % 2 * 7 + (Fin.ofNat 4480 (g.val * 640 + p)).val / 640 = h % 14; omega
    · show d % 128 / 32 = d / 32 % 4; omega
  have hk : (fun k d => k0_pay3 x2 x3 (ix3 n (Fin.ofNat 640 k) (Fin.ofNat 128 d))) = kArg X2 X3 b (h / 7) := by
    funext k d
    rw [k_at, h2, h3, hX3.dec, kArg]
    refine congrArg₂ (fun i j => X2 i * dec (X3 j)) (ix4_eq ?_ rfl ?_ rfl) (ix4_eq ?_ rfl ?_ ?_)
    · show n.val / 2 = b % 3; omega
    · show n.val % 2 = h / 7 % 2; omega
    · show n.val / 2 = b % 3; omega
    · show n.val % 2 = h / 7 % 2; omega
    · show d % 128 / 32 = d / 32 % 4; omega
  rw [refScores, hq, hk, argScores]

/-- The values are those of the arguments. -/
theorem values_eq (h4 : ∀ (n : Fin 6) (r : Fin 640) (d : Fin 128), x4 (ix3 n r d) = X4 (ix4 ⟨n.val / 2, by omega⟩ r ⟨n.val % 2, by omega⟩ d))
    (h5 : ∀ (n : Fin 6) (r : Fin 20) (d : Fin 128), x5 (ix3 n r d) = X5 (ix4 ⟨n.val / 2, by omega⟩ r ⟨n.val % 2, by omega⟩ d))
    (hX5 : Normal X5) (b h k d : ℕ) (hb : b < 3) (hh : h < 14) (n : Fin 6) (hn : n.val = b * 2 + h / 7) (d' : Fin 128) (hd : d'.val = d) :
    k0_pay6 (k0_pay4 x4) (k0_pay5 x5) (ix3 n (Fin.ofNat 640 k) d') = vArg X4 X5 b (h / 7) k d := by
  rw [v_at, h4, h5, hX5.dec, vArg]
  have := d'.isLt
  refine congrArg₂ (fun i j => X4 i * dec (X5 j)) (ix4_eq ?_ rfl ?_ ?_) (ix4_eq ?_ ?_ ?_ ?_)
  · show n.val / 2 = b % 3; omega
  · show n.val % 2 = h / 7 % 2; omega
  · show d'.val = d % 128; omega
  · show n.val / 2 = b % 3; omega
  · show k % 640 / 32 = k / 32 % 20; omega
  · show n.val % 2 = h / 7 % 2; omega
  · show d'.val = d % 128; omega

end

variable (m : (ℓ : Loc nD τ sig) → Buf (Elt Ideal) ℓ)

/-- The blocks are the whole arrays. -/
theorem idx : ∀ t : Fin cfg0.N, win0_0.index t = ![0, 0, 0] ∧ win0_1.index t = ![0, 0, 0] ∧ win0_2.index t = ![0, 0, 0]
    ∧ win0_3.index t = ![0, 0, 0] ∧ win0_4.index t = ![0, 0, 0] ∧ win0_5.index t = ![0, 0, 0]
    ∧ win0_6.index t = ![0, 0, 0] ∧ win0_7.index t = ![0, 0, 0] :=
  (by decide +kernel : ∀ t : Fin grid0.N, _)

/-- The queries' codes. -/
theorem q_blk (c : Dev nD) (t : Fin cfg0.N) (n : Fin 6) (r : Fin 4480) (d : Fin 128) :
    (iblk m c 0 t : Vec Ideal S6x4480x128 .fp8e4m3) (ix3 n r d) = (m ((c : Thread nD τ).loc main_arg0) : S3x640x14x128.Idx → EReal)
      (ix4 ⟨n.val / 2, by omega⟩ ⟨r.val % 640, by omega⟩ ⟨n.val % 2 * 7 + r.val / 640, by omega⟩ d) := by
  blk_simp [iblk, idx t]
  entry_read
  pointwise
  blk_ext [idx t]

/-- The queries' scales. -/
theorem qs_blk (c : Dev nD) (t : Fin cfg0.N) (n : Fin 6) (r : Fin 4480) (d : Fin 4) :
    (iblk m c 1 t : Vec Ideal S6x4480x4 .i8) (ix3 n r d) = (m ((c : Thread nD τ).loc main_arg1) : S3x640x14x4.Idx → BitVec 8)
      (ix4 ⟨n.val / 2, by omega⟩ ⟨r.val % 640, by omega⟩ ⟨n.val % 2 * 7 + r.val / 640, by omega⟩ d) := by
  blk_simp [iblk, idx t]
  entry_read
  pointwise
  blk_ext [idx t]

/-- The keys' codes. -/
theorem k_blk (c : Dev nD) (t : Fin cfg0.N) (n : Fin 6) (r : Fin 640) (d : Fin 128) :
    (iblk m c 2 t : Vec Ideal S6x640x128 .fp8e4m3) (ix3 n r d) = (m ((c : Thread nD τ).loc main_arg2) : S3x640x2x128.Idx → EReal)
      (ix4 ⟨n.val / 2, by omega⟩ r ⟨n.val % 2, by omega⟩ d) := by
  blk_simp [iblk, idx t]
  entry_read
  pointwise
  blk_ext [idx t]

/-- The keys' scales. -/
theorem ks_blk (c : Dev nD) (t : Fin cfg0.N) (n : Fin 6) (r : Fin 640) (d : Fin 4) :
    (iblk m c 3 t : Vec Ideal S6x640x4 .i8) (ix3 n r d) = (m ((c : Thread nD τ).loc main_arg3) : S3x640x2x4.Idx → BitVec 8)
      (ix4 ⟨n.val / 2, by omega⟩ r ⟨n.val % 2, by omega⟩ d) := by
  blk_simp [iblk, idx t]
  entry_read
  pointwise
  blk_ext [idx t]

/-- The values' codes. -/
theorem v_blk (c : Dev nD) (t : Fin cfg0.N) (n : Fin 6) (r : Fin 640) (d : Fin 128) :
    (iblk m c 4 t : Vec Ideal S6x640x128 .fp8e4m3) (ix3 n r d) = (m ((c : Thread nD τ).loc main_arg4) : S3x640x2x128.Idx → EReal)
      (ix4 ⟨n.val / 2, by omega⟩ r ⟨n.val % 2, by omega⟩ d) := by
  blk_simp [iblk, idx t]
  entry_read
  pointwise
  blk_ext [idx t]

/-- The values' scales. -/
theorem vs_blk (c : Dev nD) (t : Fin cfg0.N) (n : Fin 6) (r : Fin 20) (d : Fin 128) :
    (iblk m c 5 t : Vec Ideal S6x20x128 .i8) (ix3 n r d) = (m ((c : Thread nD τ).loc main_arg5) : S3x20x2x128.Idx → BitVec 8)
      (ix4 ⟨n.val / 2, by omega⟩ r ⟨n.val % 2, by omega⟩ d) := by
  blk_simp [iblk, idx t]
  entry_read
  pointwise
  blk_ext [idx t]

/-- No offset. -/
theorem off3 : (![0, 0, 0] : Fin 3 → ℕ) = fun _ => 0 := by
  funext a
  match a with
  | ⟨0, _⟩ => rfl
  | ⟨1, _⟩ => rfl
  | ⟨2, _⟩ => rfl

/-- The decoded queries, from the blocks. -/
theorem pay14_eq (x0 : Vec Ideal S6x4480x128 .fp8e4m3) (x1 : Vec Ideal S6x4480x4 .i8) (x2 : Vec Ideal S6x640x128 .fp8e4m3) (x3 : Vec Ideal S6x640x4 .i8)
    (x4 : Vec Ideal S6x640x128 .fp8e4m3) (x5 : Vec Ideal S6x20x128 .i8) : k0_pay14 x0 x1 x2 x3 x4 x5 = k0_pay2 x0 x1 := by
  unfold k0_pay14
  rw [View.ld_unit_zero off3, View.ld_unit_zero off3]

/-- The decoded keys, from the blocks. -/
theorem pay15_eq (x0 : Vec Ideal S6x4480x128 .fp8e4m3) (x1 : Vec Ideal S6x4480x4 .i8) (x2 : Vec Ideal S6x640x128 .fp8e4m3) (x3 : Vec Ideal S6x640x4 .i8)
    (x4 : Vec Ideal S6x640x128 .fp8e4m3) (x5 : Vec Ideal S6x20x128 .i8) : k0_pay15 x0 x1 x2 x3 x4 x5 = k0_pay3 x2 x3 := by
  unfold k0_pay15
  rw [View.ld_unit_zero off3, View.ld_unit_zero off3]

/-- The second result's array. -/
theorem final7 (c : Dev nD) (h1 : Normal (m ((c : Thread nD τ).loc main_arg1) : S3x640x14x4.Idx → BitVec 8))
    (h3 : Normal (m ((c : Thread nD τ).loc main_arg3) : S3x640x2x4.Idx → BitVec 8)) : (dats m 0 c).arrAt 7 cfg0.N
    = specLse (m ((c : Thread nD τ).loc main_arg0)) (m ((c : Thread nD τ).loc main_arg1)) (m ((c : Thread nD τ).loc main_arg2))
        (m ((c : Thread nD τ).loc main_arg3)) := by
  refine (dats m 0 c).arrAt_eq_of_covers 7 _ (by decide +kernel) fun t _ y => ?_
  blk_simp
  rw [after0_7]
  frame_out
  rw [pay14_eq, pay15_eq]
  have key : ∀ (b : Fin 3) (h : Fin 14) (p : Fin 640), k0_pay11 (k0_pay2 (iblk m c 0 t) (iblk m c 1 t)) (k0_pay3 (iblk m c 2 t) (iblk m c 3 t)) (ix3 b h p)
      = specLse (m ((c : Thread nD τ).loc main_arg0)) (m ((c : Thread nD τ).loc main_arg1)) (m ((c : Thread nD τ).loc main_arg2))
        (m ((c : Thread nD τ).loc main_arg3)) (ix3 b h p) := fun b h p => by
    rw [l_at, scores_eq _ _ _ _ _ _ _ _ (q_blk m c t) (qs_blk m c t) (k_blk m c t) (ks_blk m c t) h1 h3 b.val h.val p.val b.isLt h.isLt p.isLt _ _ rfl rfl]
    rfl
  have hy : (((View.whole main_v12_1).slice (win0_7.rect t)).emb y : S3x14x640.Idx) = ix3 (y 0) (y 1) (y 2) := by
    blk_ext [idx t]
  rw [hy]
  exact (congrArg _ (eq_ix3 y)).trans (key (y 0) (y 1) (y 2))

/-- The first result's array. -/
theorem final6 (c : Dev nD) (h1 : Normal (m ((c : Thread nD τ).loc main_arg1) : S3x640x14x4.Idx → BitVec 8))
    (h3 : Normal (m ((c : Thread nD τ).loc main_arg3) : S3x640x2x4.Idx → BitVec 8))
    (h5 : Normal (m ((c : Thread nD τ).loc main_arg5) : S3x20x2x128.Idx → BitVec 8)) : (dats m 0 c).arrAt 6 cfg0.N
    = specOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (dats m 0 c).arrAt_eq_of_covers 6 _ (by decide +kernel) fun t _ y => ?_
  blk_simp
  rw [after0_6]
  frame_out
  rw [pay14_eq, pay15_eq]
  have key : ∀ (b : Fin 3) (p : Fin 640) (l : Fin 1792), k0_pay1 (k0_pay6 (k0_pay4 (iblk m c 4 t)) (k0_pay5 (iblk m c 5 t)))
      (k0_pay12 (k0_pay2 (iblk m c 0 t) (iblk m c 1 t)) (k0_pay3 (iblk m c 2 t) (iblk m c 3 t)))
      (k0_pay13 (k0_pay2 (iblk m c 0 t) (iblk m c 1 t)) (k0_pay3 (iblk m c 2 t) (iblk m c 3 t))) (ix3 b p l)
      = specOut (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (ix3 b p l) := fun b p l => by
    have hl : l.val / 128 < 14 := by omega
    rw [o_at _ _ _ b p l ⟨b.val * 2 + l.val / 128 / 7, by omega⟩ ⟨l.val / 128 % 7, by omega⟩ rfl rfl,
      scores_eq _ _ _ _ _ _ _ _ (q_blk m c t) (qs_blk m c t) (k_blk m c t) (ks_blk m c t) h1 h3 b.val (l.val / 128) p.val b.isLt hl p.isLt _ _ rfl rfl,
      funext fun k => values_eq _ _ _ _ (v_blk m c t) (vs_blk m c t) h5 b.val (l.val / 128) k (l.val % 128) b.isLt hl _ rfl _ rfl]
    rfl
  have hy : (((View.whole main_v12_0).slice (win0_6.rect t)).emb y : S3x640x1792.Idx) = ix3 (y 0) (y 1) (y 2) := by
    blk_ext [idx t]
  rw [hy]
  exact (congrArg _ (eq_ix3 y)).trans (key (y 0) (y 1) (y 2))

end Cert.Attn.Refl
-- ==== Proof.Scales.lean ====
/- What the precondition says: each scale byte is at least 1 and at most 254. -/
module

public import proofs.«01_k».proof.Proof.RefFinal
public import proofs.«01_k».proof.Pre_scales_are_normal

@[expose] public section

noncomputable section

namespace Cert.Attn

open Idealize.ShloMosaic Cert.Pre_scales_are_normal Cert.Attn.Refl

/-- A conjunction of bits is one only where both are. -/
theorem and_one (a b : BitVec 1) (h : IntOp.andi a b = 1#1) : a = 1#1 ∧ b = 1#1 := by
  revert a b; decide

/-- A fold by conjunction is one only where it starts at one and every bit is one. -/
theorem foldl_and {ι : Type} (x : ι → BitVec 1) (l : List ι) : ∀ v : BitVec 1, l.foldl (fun r i => IntOp.andi r (x i)) v = 1#1 →
    v = 1#1 ∧ ∀ i ∈ l, x i = 1#1 := by
  induction l with
  | nil => exact fun v h => ⟨h, fun i hi => absurd hi List.not_mem_nil⟩
  | cons a l ih =>
    intro v h
    have h' := ih _ h
    have h'' := and_one _ _ h'.1
    refine ⟨h''.1, fun i hi => ?_⟩
    rcases List.mem_cons.1 hi with rfl | hi
    · exact h''.2
    · exact h'.2 i hi

/-- A reduction by conjunction to a scalar is one only where every bit is one. -/
theorem reduce_and {s : Shape} {axes : List (Fin s.rank)} (x : s.Idx → BitVec 1) (init : S_.Idx → BitVec 1) (h : s.ReducesTo axes S_)
    (hu : 0 < S_.numel) (j : S_.Idx) (e : Host.reduce IntOp.andi x init h hu j = 1#1) (i : s.Idx) : x i = 1#1 := by
  rw [Host.reduce_eq_foldl] at e
  refine (foldl_and x _ _ e).2 i (List.mem_filter.2 ⟨List.mem_map.2 ⟨s.rowMajor i, List.mem_finRange _, s.rowMajor.symm_apply_apply i⟩, ?_⟩)
  exact decide_eq_true (funext fun a => a.elim0)

/-- The comparisons of one byte. -/
theorem byte_normal : ∀ b : BitVec 8, IntOp.andi (IntOp.cmpi .sge (b.setWidth 32) 1#32) (IntOp.cmpi .sle (b.setWidth 32) 254#32) = 1#1 →
    1 ≤ b.toNat ∧ b.toNat ≤ 254 := by
  decide +kernel

/-- The precondition holds only of normal scales. -/
theorem normal_of [Facts] (X0 : FVec Ideal S3x640x14x128 .fp8e4m3) (X1 : IVec S3x640x14x4 8) (X2 : FVec Ideal S3x640x2x128 .fp8e4m3)
    (X3 : IVec S3x640x2x4 8) (X4 : FVec Ideal S3x640x2x128 .fp8e4m3) (X5 : IVec S3x20x2x128 8)
    (h : fn X0 X1 X2 X3 X4 X5 = fun _ => 1#1) : Normal X1 ∧ Normal X3 ∧ Normal X5 := by
  have e := congrFun h (Shape.Idx.first Facts.h_S_)
  obtain ⟨e13, e5⟩ := and_one _ _ e
  obtain ⟨e1, e3⟩ := and_one _ _ e13
  exact ⟨fun i => byte_normal _ (reduce_and _ _ _ _ _ e1 i), fun i => byte_normal _ (reduce_and _ _ _ _ _ e3 i),
    fun i => byte_normal _ (reduce_and _ _ _ _ _ e5 i)⟩

end Cert.Attn
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Pre_scales_are_normal
public import proofs.«01_k».proof.Proof.Gen.KernelIdeal.Value
public import proofs.«01_k».proof.Proof.Gen.ReferenceIdeal.Value
public import proofs.«01_k».proof.Proof.Final
public import proofs.«01_k».proof.Proof.RefFinal
public import proofs.«01_k».proof.Proof.Scales
public import Idealize.ShloMosaic.Adequacy
public import Idealize.ShloMosaic.Init

@[expose] public section

noncomputable section

namespace Cert.Proof

open Idealize.ShloMosaic Idealize.SL.Sem Cert.Kernel

/-- The readings of the kernel's named constants are the ones stated. -/
theorem preserves : Cert.preserves_Kernel_KernelIdeal :=
  ⟨IdealRules.named_const.statement Cert.KernelIdeal.κ "minus_inf" .f32 0xFF61B1E6#32 ⊥ rfl,
   IdealRules.named_const.statement Cert.KernelIdeal.κ "score_scale_log2e" .f32 0x3E0293EE#32
     (((Real.sqrt 128)⁻¹ * (Real.log 2)⁻¹ : ℝ) : EReal) rfl,
   IdealRules.named_const.statement Cert.KernelIdeal.κ "score_scale" .f32 0x3DB504F3#32
     (((Real.sqrt 128)⁻¹ : ℝ) : EReal) rfl,
   IdealRules.named_const.statement Cert.KernelIdeal.κ "inv_fp8_max" .f32 0x3B124925#32
     ((1 / 448 : ℝ) : EReal) rfl⟩

/-- Both programs end with `specOut` and `specLse` of the arguments. -/
theorem algebraic : Cert.algebraic_KernelIdeal_ReferenceIdeal_pre_scales_are_normal := by
  intro m g m' g' hpre hargs
  refine ⟨fun c => Cert.Attn.specOut
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)),
    fun c => Cert.Attn.specLse
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun r h c => ?_) (Cert.KernelIdeal.Value.run_blocks m g)
    obtain ⟨e6, e7, rest⟩ := h c
    exact ⟨e6.trans (Cert.Attn.Kern.final6 m c), e7.trans (Cert.Attn.Kern.final7 m c), rest⟩
  · refine (θ_run Cert.ReferenceIdeal.defs _ _).mono (fun r h c => ?_) (Cert.ReferenceIdeal.Value.run_blocks m' g')
    obtain ⟨e6, e7, rest⟩ := h c
    obtain ⟨a0, a1, a2, a3, a4, a5⟩ := hargs c
    obtain ⟨n1, n3, n5⟩ := Cert.Attn.normal_of _ _ _ _ _ _ (hpre c)
    have h1 := a1.symm ▸ n1
    have h3 := a3.symm ▸ n3
    have h5 := a5.symm ▸ n5
    refine ⟨e6.trans ((Cert.Attn.Refl.final6 m' c h1 h3 h5).trans ?_), e7.trans ((Cert.Attn.Refl.final7 m' c h1 h3).trans ?_), rest⟩
    · rw [a0, a1, a2, a3, a4, a5]
    · rw [a0, a1, a2, a3]

/-- Everything the statement states. -/
theorem claim : Cert.Claim :=
  ⟨Cert.Kernel.Gen.facts, Cert.KernelIdeal.Gen.facts, Cert.ReferenceIdeal.Gen.facts, Cert.Pre_scales_are_normal.Gen.facts,
   fun m ρ _ => Cert.Kernel.Gen.frame m ρ,
   fun m ρ _ => Cert.KernelIdeal.Gen.frame m ρ,
   fun m ρ _ => Cert.KernelIdeal.Gen.frame m ρ,
   fun m ρ _ => Cert.ReferenceIdeal.Gen.frame m ρ,
   fun m ρ _ => Cert.ReferenceIdeal.Gen.frame m ρ,
   preserves,
   algebraic⟩

end Cert.Proof

end
